-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  IdealRules.named_const.Statement Cert.KernelIdeal.κ "eps" .f32 0x3586386D#32 ((1 / 999980 : ℝ) : EReal)
  ∧ IdealRules.named_const.Statement Cert.KernelIdeal.κ "entropy" .f32 0xBFBCF9CF#32 (((1 / 10) * (Real.log (387420489 / 999980000000000)) : ℝ) : EReal)
  ∧ IdealRules.named_const.Statement Cert.KernelIdeal.κ "neg_eps" .f32 0xB586386D#32 ((-1 / 999980 : ℝ) : EReal)
  ∧ IdealRules.named_const.Statement Cert.KernelIdeal.κ "conf_less_eps" .f32 0x3F666656#32 ((899981 / 999980 : ℝ) : EReal)

def preserves_Reference_ReferenceIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ quiescent_Reference (hReference := hReference)
    ∧ preserves_Kernel_KernelIdeal
    ∧ preserves_Reference_ReferenceIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S2048x100000 : Shape := ⟨2, ![2048, 100000]⟩
abbrev S2048 : Shape := ⟨1, ![2048]⟩
abbrev S_ : Shape := ⟨0, ![]⟩

class Facts : Prop where
  bcast_S_S2048x100000 : S_.BroadcastsInDim S2048x100000 (![] : Fin 0 → Fin S2048x100000.rank)
  reducesTo_S2048x100000_S_d0_1 : S2048x100000.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x100000 .f32) (main_arg1 : IVec S2048 32) : IVec S_ 1 :=
  let main_v0 : FVec F S2048x100000 .f32 := Host.absf main_arg0
  let main_cst : FVec F S_ .f32 := constant S_ .f32 0x7F800000#32
  let main_v1 : FVec F S2048x100000 .f32 := broadcastInDim S2048x100000 ![] bcast_S_S2048x100000 main_cst
  let main_v2 : IVec S2048x100000 1 := cmpf .olt main_v0 main_v1
  let main_c : IVec S_ 1 := constantI S_ 1 1#1
  let main_v3 : IVec S_ 1 := (fun x v => Host.reduce IntOp.andi x v reducesTo_S2048x100000_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 32 := constantI S_ 32 100000#32
  let main_v6 : IVec S2048 32 := broadcastInDim S2048 ![] bcast_S_S2048 main_c_1
  let main_v7 : IVec S2048 1 := cmpi .slt main_arg1 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v3 main_v9
  main_v10
-- ==== Kernel.lean ====
abbrev S2048x100000 : Shape := ⟨2, ![2048, 100000]⟩
abbrev S2048 : Shape := ⟨1, ![2048]⟩
abbrev S128x1x16 : Shape := ⟨3, ![128, 1, 16]⟩
abbrev S2048x128 : Shape := ⟨2, ![2048, 128]⟩
abbrev S262144 : Shape := ⟨1, ![262144]⟩
abbrev S32x16 : Shape := ⟨2, ![32, 16]⟩
abbrev S8192 : Shape := ⟨1, ![8192]⟩
abbrev S64 : Shape := ⟨1, ![64]⟩
abbrev S16 : Shape := ⟨1, ![16]⟩
abbrev S_ : Shape := ⟨0, ![]⟩
abbrev S1 : Shape := ⟨1, ![1]⟩
abbrev S1x16 : Shape := ⟨2, ![1, 16]⟩
abbrev S1x1 : Shape := ⟨2, ![1, 1]⟩
abbrev S16x100000 : Shape := ⟨2, ![16, 100000]⟩
abbrev S1x1x16 : Shape := ⟨3, ![1, 1, 16]⟩
abbrev S16x1 : Shape := ⟨2, ![16, 1]⟩

abbrev nBuf : Table → Nat
  | .hbm => 11
  | .local .tc .vmem => 4
  | .local .tc .smem => 1
  | .local .scVector .vmem => 3
  | _ => 0

abbrev bufTy : (tb : Table) → Fin (nBuf tb) → BufTy
  | .hbm, ⟨0, _⟩ => ⟨S2048x100000, .f32⟩
  | .hbm, ⟨1, _⟩ => ⟨S2048, .i32⟩
  | .hbm, ⟨2, _⟩ => ⟨S128x1x16, .i32⟩
  | .hbm, ⟨3, _⟩ => ⟨S2048x128, .f32⟩
  | .hbm, ⟨4, _⟩ => ⟨S262144, .f32⟩
  | .hbm, ⟨5, _⟩ => ⟨S32x16, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local .tc .vmem, ⟨0, _⟩ => ⟨S16x100000, .f32⟩
  | .local .tc .vmem, ⟨1, _⟩ => ⟨S16x100000, .f32⟩
  | .local .tc .vmem, ⟨2, _⟩ => ⟨S1x1x16, .i32⟩
  | .local .tc .vmem, ⟨3, _⟩ => ⟨S1x1x16, .i32⟩
  | .local .tc .smem, ⟨0, _⟩ => ⟨S1x1, .f32⟩
  | .local .scVector .vmem, ⟨0, _⟩ => ⟨S8192, .f32⟩
  | .local .scVector .vmem, ⟨1, _⟩ => ⟨S64, .i32⟩
  | .local .scVector .vmem, ⟨2, _⟩ => ⟨S16, .f32⟩
  | _, _ => ⟨S2048x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v2_scv : Ref sig .scVector := ⟨.hbm, 4, rfl⟩
abbrev main_arg1_scv : Ref sig .scVector := ⟨.hbm, 1, rfl⟩
abbrev main_v3_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v3 : BitVec 32 := Scalar.muli v1 c64_i32_0
  let c128_i32 : BitVec 32 := 128#32
  let v4 : BitVec 32 := Scalar.muli v3 c128_i32
  ![v4.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_272_r2 : BitVec 32 := 0#32
  ![v1.toNat, 0]
abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x16 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "conf_less_eps" => some ((899981 / 999980 : ℝ) : EReal)
  | "entropy" => some (((1 / 10) * (Real.log (387420489 / 999980000000000)) : ℝ) : EReal)
  | "eps" => some ((1 / 999980 : ℝ) : EReal)
  | "neg_eps" => some ((-1 / 999980 : ℝ) : EReal)
  | _ => none
-- ==== Reference.lean ====
abbrev S2048x100000 : Shape := ⟨2, ![2048, 100000]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S1 : Shape := ⟨1, ![1]⟩

abbrev nBuf : Space → Nat
  | .hbm => 56
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x100000, .f32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2048x1, .i32⟩
  | .hbm, ⟨27, _⟩ => ⟨S2048x2, .i32⟩
  | .hbm, ⟨28, _⟩ => ⟨S2048, .f32⟩
  | .hbm, ⟨29, _⟩ => ⟨S2048x100000, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S2048, .f32⟩
  | .hbm, ⟨34, _⟩ => ⟨S2048x100000, .f32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048x1, .i1⟩
  | .hbm, ⟨39, _⟩ => ⟨S_, .f32⟩
  | .hbm, ⟨40, _⟩ => ⟨S_, .f32⟩
  | .hbm, ⟨41, _⟩ => ⟨S2048x100000, .i1⟩
  | .hbm, ⟨42, _⟩ => ⟨S2048x100000, .f32⟩
  | .hbm, ⟨43, _⟩ => ⟨S2048x100000, .f32⟩
  | .hbm, ⟨44, _⟩ => ⟨S_, .f32⟩
  | .hbm, ⟨45, _⟩ => ⟨S2048x100000, .f32⟩
  | .hbm, ⟨46, _⟩ => ⟨S2048x100000, .i1⟩
  | .hbm, ⟨47, _⟩ => ⟨S_, .f32⟩
  | .hbm, ⟨48, _⟩ => ⟨S_, .f32⟩
  | .hbm, ⟨49, _⟩ => ⟨S2048x100000, .f32⟩
  | .hbm, ⟨50, _⟩ => ⟨S2048x100000, .f32⟩
  | .hbm, ⟨51, _⟩ => ⟨S2048x100000, .f32⟩
  | .hbm, ⟨52, _⟩ => ⟨S2048x100000, .f32⟩
  | .hbm, ⟨53, _⟩ => ⟨S2048x100000, .f32⟩
  | .hbm, ⟨54, _⟩ => ⟨S_, .f32⟩
  | .hbm, ⟨55, _⟩ => ⟨S_, .f32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_12 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Proof.Eqs.lean ====
/-
  The printed kernel and the idealized one are the same program wherever a named constant stands for the
  bit pattern it names: the two differ in those constants alone.
-/
module

public import proofs.«01_k».proof.Kernel
public import proofs.«01_k».proof.KernelIdeal
public import Idealize.ShloMosaic.PureOps.BitExact
public import proofs.«01_k».proof.Proof.Gen.Kernel
public import proofs.«01_k».proof.Proof.Gen.KernelIdeal

@[expose] public section

noncomputable section

namespace Cert.Proof.Eqs

open Idealize.ShloMosaic

/-- A named constant read at machine words: the bit pattern it names. -/
@[reducible] def namedBits : Named Bits where
  named _ _ {φ} b := (Scalar.ofBits φ b : Bits φ)

section

variable [Cert.Kernel.Facts] [Cert.KernelIdeal.Facts]

attribute [local instance] namedBits

set_option maxRecDepth 65536
set_option maxHeartbeats 1000000

/-- The SparseCore kernel is the same. -/
theorem sc_eq : Cert.Kernel.cc0_sc_kernel (F := Bits) = Cert.KernelIdeal.cc0_sc_kernel (F := Bits) := rfl

/-- The TensorCore kernel's step is the same. -/
theorem tc_eq : Cert.Kernel.cc1__tc_main_body (F := Bits) = Cert.KernelIdeal.cc1__tc_main_body (F := Bits) := rfl

/-- The kernels' table is the same, entry by entry. -/
theorem defs₀_eq : Cert.Kernel.defs₀ (F := Bits) = Cert.KernelIdeal.defs₀ (F := Bits) := by
  funext p b a
  match p, b, a with
  | .tc, 0, _ => rfl
  | .tc, 1, _ => rfl
  | .scScalar _, 0, _ => rfl
  | .scScalar _, 1, _ => rfl
  | .scVector _ _, 0, _ => rfl
  | .scVector _ _, 1, _ => rfl

/-- The whole table of definitions is the same. -/
theorem defs_eq : Cert.Kernel.defs (F := Bits) = Cert.KernelIdeal.defs (F := Bits) := by
  have h := defs₀_eq
  unfold Cert.Kernel.defs Cert.KernelIdeal.defs
  rw [h]
  rfl

/-- The threads run the same programs. -/
theorem threads_eq : Cert.Kernel.threads (F := Bits) = Cert.KernelIdeal.threads (F := Bits) := rfl

end

end Cert.Proof.Eqs

end
-- ==== Proof.Setup.lean ====
/-
  The set-up of the launch: the program as the launch theorem sees it, the ghost state, the operands cut into
  the thirty-two tiles' shares, the vector a tile writes, and what the handshakes carry.
-/
module

public import proofs.«01_k».proof.Defs
public import proofs.«01_k».proof.Proof.Eqs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.ValueIdx
public import Idealize.ShloMosaic.Lib.Tactic
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

abbrev EH : Emb UH (MM F) := embL
/-- The pipeline's rounds: the right factor's left half. -/
def EP : Emb UP (MM F) := (Emb.inl : Emb UP (UP × Counters)).trans embR
instance EP_landsIn : (EP : Emb UP (MM F)).LandsIn (upEmb : UEmb _ (MM F)) := by unfold EP; infer_instance

local notation "𝕄" => MM F

/-! ## The buffers and their cut into thirty-two parts -/

abbrev xLoc (d : Dev nD) : Loc nD τ sig := (SparseCore.T d).loc main_v2
abbrev tLoc (d : Dev nD) : Loc nD τ sig := (SparseCore.T d).loc main_arg1
abbrev oLoc (d : Dev nD) : Loc nD τ sig := (SparseCore.T d).loc main_v3

abbrev xV : Memref sig .scVector .hbm S262144 .f32 := Memref.whole main_v2_scv
abbrev tV : Memref sig .scVector .hbm S2048 .i32 := Memref.whole main_arg1_scv
abbrev oV : Memref sig .scVector .hbm S32x16 .f32 := Memref.whole main_v3_scv
abbrev sX : Memref sig .scVector .vmem S8192 .f32 := Memref.whole cc0_scratch0
abbrev sT : Memref sig .scVector .vmem S64 .i32 := Memref.whole cc0_scratch1
abbrev sO : Memref sig .scVector .vmem S16 .f32 := Memref.whole cc0_scratch2

theorem xdiv : 32 ∣ S262144.size 0 := ⟨8192, rfl⟩
theorem tdiv : 32 ∣ S2048.size 0 := ⟨64, rfl⟩
theorem odiv : 32 ∣ S32x16.size 0 := ⟨1, rfl⟩
abbrev xrow (w : Fin 32) : Rect S262144 := Rect.part (s := S262144) (a₀ := 0) xdiv w
abbrev trow (w : Fin 32) : Rect S2048 := Rect.part (s := S2048) (a₀ := 0) tdiv w
abbrev orow (w : Fin 32) : Rect S32x16 := Rect.part (s := S32x16) (a₀ := 0) odiv w
abbrev xRowSet (w : Fin 32) : Finset S262144.Idx := (xV.view.slice (xrow w)).set
abbrev tRowSet (w : Fin 32) : Finset S2048.Idx := (tV.view.slice (trow w)).set
abbrev oRowSet (w : Fin 32) : Finset S32x16.Idx := (oV.view.slice (orow w)).set

/-- The row of the output that subcore `i` of SparseCore `c` writes. -/
def wid (c : Fin 2) (i : Fin 16) : Fin 32 := ⟨2 * i.val + c.val, by omega⟩

/-- Part `w` of the flattened first columns. -/
def xPart (X : S262144.Idx → Elt F .f32) (w : Fin 32) : S8192.Idx → Elt F .f32 :=
  fun k => X (ix1 ⟨8192 * w.val + (k 0).val, by have h1 := w.isLt; have h2 : (k 0).val < 8192 := (k 0).isLt; omega⟩)
/-- Part `w` of the targets. -/
def tPart (T : S2048.Idx → Elt F .i32) (w : Fin 32) : S64.Idx → Elt F .i32 :=
  fun k => T (ix1 ⟨64 * w.val + (k 0).val, by have h1 := w.isLt; have h2 : (k 0).val < 64 := (k 0).isLt; omega⟩)

variable [FloatOps F] [Named F]

/-! ## What a tile computes -/

/-- One row: lane 0 of the row's first sixteen words is added when the row's target is not the padding word. -/
def laneAdd (t : BitVec 32) (x : Vec F S16 .f32) (acc : FVec F S16 .f32) : FVec F S16 .f32 :=
  addf acc (select (cmpi .eq (iota .scVector S16 32 [0] iota_S16_d0_w32_scVector)
    (broadcast S16 (Scalar.select (Scalar.cmpi .ne t 0#32) 0#32 4294967295#32))) x (broadcast S16 (Scalar.ofBits .f32 0x00000000#32)))

/-- The first `n` rows' lanes added up. -/
def laneSum (x : ℕ → Vec F S16 .f32) (t : ℕ → BitVec 32) : ℕ → FVec F S16 .f32
  | 0 => broadcast S16 (Scalar.ofBits .f32 0x00000000#32)
  | n + 1 => laneAdd (t n) (x n) (laneSum x t n)

/-- One group of sixteen targets: a one is added in each lane whose target is not the padding word. -/
def cntAdd (t : IVec S16 32) (acc : FVec F S16 .f32) : FVec F S16 .f32 :=
  addf acc (select (cmpi .ne t (broadcast S16 0#32)) (broadcast S16 (Scalar.ofBits .f32 0x3F800000#32)) (broadcast S16 (Scalar.ofBits .f32 0x00000000#32)))

/-- The sixteen words of a tile's rows from word `n` on. -/
def rowAt (x : S8192.Idx → Elt F .f32) (n : ℕ) : Vec F S16 .f32 :=
  fun l => x (ix1 ⟨(n + (l 0).val) % 8192, Nat.mod_lt _ (by decide)⟩)
/-- Row `r`'s first sixteen words, of a tile's sixty-four rows of one hundred and twenty-eight. -/
def rowVec (x : S8192.Idx → Elt F .f32) (r : ℕ) : Vec F S16 .f32 := rowAt x (128 * r)
/-- The sixteen of a tile's targets from target `n` on. -/
def grpAt (t : S64.Idx → Elt F .i32) (n : ℕ) : IVec S16 32 :=
  fun l => t (ix1 ⟨(n + (l 0).val) % 64, Nat.mod_lt _ (by decide)⟩)
/-- Target `r` of a tile's sixty-four. -/
def tgt (t : S64.Idx → Elt F .i32) (r : ℕ) : BitVec 32 := grpAt t (16 * (r / 16)) (ix1 ⟨r % 16, Nat.mod_lt _ (by decide)⟩)
/-- Group `g` of a tile's targets. -/
def grpVec (t : S64.Idx → Elt F .i32) (g : ℕ) : IVec S16 32 := grpAt t (16 * g)

/-- The vector a tile writes out. -/
def tileVal (x : S8192.Idx → Elt F .f32) (t : S64.Idx → Elt F .i32) : FVec F S16 .f32 :=
  addf (mulf (broadcast S16 (Named.named κ "eps" 0x3586386D#32)) (laneSum (rowVec x) (tgt t) 64))
    (mulf (broadcast S16 (Named.named κ "entropy" 0xBFBCF9CF#32))
      (cntAdd (grpVec t 3) (cntAdd (grpVec t 2) (cntAdd (grpVec t 1) (cntAdd (grpVec t 0) (broadcast S16 (Scalar.ofBits .f32 0x00000000#32)))))))

/-- The whole of what the SparseCores write: row `w` is tile `w`'s vector. -/
def scOut (X : S262144.Idx → Elt F .f32) (T : S2048.Idx → Elt F .i32) : S32x16.Idx → Elt F .f32 :=
  fun j => tileVal (xPart X (j 0)) (tPart T (j 0)) (ix1 (j 1))

/-! ## What the handshakes carry -/

variable (X : (d : Dev nD) → Buf (Elt F) (xLoc d)) (T' : (d : Dev nD) → Buf (Elt F) (tLoc d)) (O' : (d : Dev nD) → Buf (Elt F) (oLoc d))

abbrev xRowPts (d : Dev nD) (w : Fin 32) : sProp 𝕄 := xLoc d ↦[xRowSet w]{fullShare} X d
abbrev tRowPts (d : Dev nD) (w : Fin 32) : sProp 𝕄 := tLoc d ↦[tRowSet w]{fullShare} T' d
abbrev oRowPts (d : Dev nD) (w : Fin 32) (f : Buf (Elt F) (oLoc d)) : sProp 𝕄 := oLoc d ↦[oRowSet w]{fullShare} f

/-- What tile `w` is handed. -/
abbrev goRow (d : Dev nD) (w : Fin 32) : sProp 𝕄 := iprop(xRowPts X d w ∗ tRowPts T' d w ∗ oRowPts d w (O' d))
/-- What tile `w` hands back: its row of the output at the tile's vector. -/
abbrev tdRow (d : Dev nD) (w : Fin 32) : sProp 𝕄 := iprop(xRowPts X d w ∗ tRowPts T' d w ∗ oRowPts d w (scOut (X d) (T' d)))

/-- The one call's handshakes: each SparseCore is handed its sixteen tiles' parts and hands them back. -/
def P : (K (F := F)).Pay (nD := nD) (Val := Elt F) (Name := ℕ) (U := UU) where
  st := fun q d c => match q with | 0 => bigSep Finset.univ fun i : Fin 16 => goRow X T' O' d (wid (Fin.cast nCore_zero c) i)
  dn := fun q d c => match q with | 0 => bigSep Finset.univ fun i : Fin 16 => tdRow X T' d (wid (Fin.cast nCore_zero c) i)
  go := fun q d c i => match q with | 0 => goRow X T' O' d (wid (Fin.cast nCore_zero c) (Fin.cast nSub_zero i))
  td := fun q d c i => match q with | 0 => tdRow X T' d (wid (Fin.cast nCore_zero c) (Fin.cast nSub_zero i))
  x := fun _ _ => iprop(emp)

instance P_storable : (P (F := F) X T' O').IsStorable where
  st q d c := match q with
    | 0 => (inferInstance : BI.Storable (upEmb : UEmb _ 𝕄) (bigSep Finset.univ fun i : Fin 16 => goRow X T' O' d (wid (Fin.cast nCore_zero c) i)))
  dn q d c := match q with
    | 0 => (inferInstance : BI.Storable (upEmb : UEmb _ 𝕄) (bigSep Finset.univ fun i : Fin 16 => tdRow X T' d (wid (Fin.cast nCore_zero c) i)))
  go q d c i := match q with
    | 0 => (inferInstance : BI.Storable (upEmb : UEmb _ 𝕄) (goRow X T' O' d (wid (Fin.cast nCore_zero c) (Fin.cast nSub_zero i))))
  td q d c i := match q with
    | 0 => (inferInstance : BI.Storable (upEmb : UEmb _ 𝕄) (tdRow X T' d (wid (Fin.cast nCore_zero c) (Fin.cast nSub_zero i))))

end Cert.Proof.Run

end
-- ==== Proof.Tile.lean ====
/-
  One tile's task: it copies its sixty-four targets and its sixty-four rows' first words in, adds up what the
  loads read, and copies its vector out to its row of the output.
-/
module

public import proofs.«01_k».proof.Proof.Setup
public import Idealize.ShloMosaic.Lib.VecWindow

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Named F]

local notation "𝕄" => MM F

variable (X : (d : Dev nD) → Buf (Elt F) (xLoc d)) (T' : (d : Dev nD) → Buf (Elt F) (tLoc d)) (O' : (d : Dev nD) → Buf (Elt F) (oLoc d))

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile's number. -/
abbrev wL (L : grid0.Coords) : Fin 32 := wid (Fin.cast bound_zero (L 0)) (Fin.cast bound_one (L 1))

abbrev xrowK (L : grid0.Coords) : Rect S262144 := Rect.unit (s := S262144) (k0_off2 L) S8192.size (k0_off2_inb L)
abbrev trowK (L : grid0.Coords) : Rect S2048 := Rect.unit (s := S2048) (k0_off1 L) S64.size (k0_off1_inb L)
abbrev orowK (L : grid0.Coords) : Rect S32x16 := Rect.unit (s := S32x16) (k0_off3 L) S1x16.size (k0_off3_inb L)
/-- The three slices as the task addresses them. -/
abbrev xRowK (L : grid0.Coords) : Memref sig .scVector .hbm S8192 .f32 := xV.slice (xrowK L) (fun _ => rfl)
abbrev tRowK (L : grid0.Coords) : Memref sig .scVector .hbm S64 .i32 := tV.slice (trowK L) (fun _ => rfl)
abbrev oRowK (L : grid0.Coords) : Memref sig .scVector .hbm S16 .f32 := (oV.slice (orowK L) (fun _ => rfl)).squeeze S16 squeezes_S1x16_S16

omit [FloatOps F] [Named F] in
theorem xrowK_eq' (w : Fin 32) (hw : w.val = 2 * (L 1).val + (L 0).val) : xrowK L = xrow w := by
  unfold xrowK xrow Rect.part Rect.block
  congr 1 <;> funext a
  · rw [k0_off2_eq]
    match a with
    | 0 => simp [Shape.partIx, Shape.partSize, hw]; try omega
  · match a with
    | 0 => simp [Shape.partSize]
omit [FloatOps F] [Named F] in
theorem trowK_eq' (w : Fin 32) (hw : w.val = 2 * (L 1).val + (L 0).val) : trowK L = trow w := by
  unfold trowK trow Rect.part Rect.block
  congr 1 <;> funext a
  · rw [k0_off1_eq]
    match a with
    | 0 => simp [Shape.partIx, Shape.partSize, hw]; try omega
  · match a with
    | 0 => simp [Shape.partSize]
omit [FloatOps F] [Named F] in
theorem orowK_eq' (w : Fin 32) (hw : w.val = 2 * (L 1).val + (L 0).val) : orowK L = orow w := by
  unfold orowK orow Rect.part Rect.block
  congr 1 <;> funext a
  · rw [k0_off3_eq]
    match a with
    | 0 => simp [Shape.partIx, Shape.partSize, hw]; try omega
    | 1 => simp [Shape.partIx, Shape.partSize]
  · match a with
    | 0 => simp [Shape.partSize]
    | 1 => simp [Shape.partSize]

omit [FloatOps F] [Named F] in
theorem set_xRowK : (xRowK L).view.set = xRowSet (wL L) := by
  show (xV.view.slice (xrowK L)).set = (xV.view.slice (xrow (wL L))).set
  exact xrowK_eq' L (wL L) rfl ▸ rfl
omit [FloatOps F] [Named F] in
theorem set_tRowK : (tRowK L).view.set = tRowSet (wL L) := by
  show (tV.view.slice (trowK L)).set = (tV.view.slice (trow (wL L))).set
  exact trowK_eq' L (wL L) rfl ▸ rfl
omit [FloatOps F] [Named F] in
theorem set_oRowK : (oRowK L).view.set = oRowSet (wL L) := by
  show ((oV.view.slice (orowK L)).reshape S16 squeezes_S1x16_S16.numel_eq).set = (oV.view.slice (orow (wL L))).set
  rw [View.set_reshape]
  exact orowK_eq' L (wL L) rfl ▸ rfl

omit [FloatOps F] [Named F] in
theorem pts_xRowK (f : Buf (Elt F) (xLoc d)) :
    ((xRowK L).view.loc (V d (cV L) (jV L)) ↦[(xRowK L).view.set]{fullShare} f : sProp 𝕄) = xLoc d ↦[xRowSet (wL L)]{fullShare} f := by
  rw [set_xRowK]
omit [FloatOps F] [Named F] in
theorem pts_tRowK (f : Buf (Elt F) (tLoc d)) :
    ((tRowK L).view.loc (V d (cV L) (jV L)) ↦[(tRowK L).view.set]{fullShare} f : sProp 𝕄) = tLoc d ↦[tRowSet (wL L)]{fullShare} f := by
  rw [set_tRowK]
omit [FloatOps F] [Named F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] [Named F] in
theorem pts_sX (f : Buf (Elt F) ((V d (cV L) (jV L)).loc cc0_scratch0)) :
    (sX.view.loc (V d (cV L) (jV L)) ↦{fullShare} f : sProp 𝕄) = (V d (cV L) (jV L)).loc cc0_scratch0 ↦{fullShare} f := rfl
omit [FloatOps F] [Named F] in
theorem pts_sT (f : Buf (Elt F) ((V d (cV L) (jV L)).loc cc0_scratch1)) :
    (sT.view.loc (V d (cV L) (jV L)) ↦{fullShare} f : sProp 𝕄) = (V d (cV L) (jV L)).loc cc0_scratch1 ↦{fullShare} f := rfl
omit [FloatOps F] [Named F] in
theorem pts_sO (f : Buf (Elt F) ((V d (cV L) (jV L)).loc cc0_scratch2)) :
    (sO.view.loc (V d (cV L) (jV L)) ↦{fullShare} f : sProp 𝕄) = (V d (cV L) (jV L)).loc cc0_scratch2 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] [Named F] in
/-- The task's three transfer semaphores are among the subcore's own: they are them, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] [Named F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] [Named F] in
/-- A rectangle of unit strides places an index at its offset plus the index. -/
theorem unit_emb_val {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega

omit [FloatOps F] [Named F] in
/-- Where the output row's slice places lane `l`. -/
theorem oRowK_emb (l : S16.Idx) : (oRowK L).view.emb l = (ix2 (wL L) (l 0) : S32x16.Idx) := by
  have h : Shape.reshapeEquiv squeezes_S1x16_S16.numel_eq l = (ix2 (0 : Fin 1) (l 0) : S1x16.Idx) := by
    apply Shape.reshapeEquiv_eq_of_rowMajor
    simp only [Shape.rowMajor_val_one, Shape.rowMajor_val_two]
    simp
  show (orowK L).emb (Shape.reshapeEquiv squeezes_S1x16_S16.numel_eq l) = _
  rw [h]
  funext a; apply Fin.ext
  refine ((unit_emb_val _ _ _ _ _).trans (congrArg (· + _) (congrFun (k0_off3_eq L) a))).trans ?_
  match a with
  | ⟨0, _⟩ => rfl
  | ⟨1, _⟩ => show 0 + (l 0).val = _; simp
omit [FloatOps F] [Named F] in
/-- What the copy of the targets brings in. -/
theorem tRowK_read (f : S2048.Idx → Elt F .i32) : (tRowK L).view.read (Elt F) f = tPart f (wL L) := by
  funext k
  show f ((trowK L).emb k) = _
  unfold tPart
  congr 1; funext a; apply Fin.ext
  refine ((unit_emb_val _ _ _ _ _).trans (congrArg (· + _) (congrFun (k0_off1_eq L) a))).trans ?_
  match a with
  | ⟨0, _⟩ => show 128 * (L 1).val + 64 * (L 0).val + (k 0).val = 64 * (2 * (L 1).val + (L 0).val) + (k 0).val; omega
omit [FloatOps F] [Named F] in
/-- What the copy of the rows' first words brings in. -/
theorem xRowK_read (f : S262144.Idx → Elt F .f32) : (xRowK L).view.read (Elt F) f = xPart f (wL L) := by
  funext k
  show f ((xrowK L).emb k) = _
  unfold xPart
  congr 1; funext a; apply Fin.ext
  refine ((unit_emb_val _ _ _ _ _).trans (congrArg (· + _) (congrFun (k0_off2_eq L) a))).trans ?_
  match a with
  | ⟨0, _⟩ => show 16384 * (L 1).val + 8192 * (L 0).val + (k 0).val = 8192 * (2 * (L 1).val + (L 0).val) + (k 0).val; omega

/-- The output's row, once the tile's vector is copied out to it, is the whole output's. -/
theorem out_row (f : Buf (Elt F) (oLoc d)) (x : S262144.Idx → Elt F .f32) (t : S2048.Idx → Elt F .i32) :
    ∀ j ∈ (oRowK L).view.set, (oRowK L).view.writes (Elt F) f [⟨Rect.whole S16, tileVal (xPart x (wL L)) (tPart t (wL L))⟩] j = scOut x t j := by
  intro j hj
  obtain ⟨l, -, rfl⟩ := Finset.mem_map.mp hj
  rw [← View.write_univ_eq_writes_whole, View.writes_nil, View.write_emb_of_mem _ _ (Finset.mem_univ _), oRowK_emb]
  exact congrArg (tileVal (xPart x (wL L)) (tPart t (wL L))) (eq_ix1 l)

/-! ## The value -/

/-- Sixteen words loaded from the rows' scratch. -/
theorem load_sX (g f : S8192.Idx → Elt F .f32) (n : ℕ) (h : ∀ a, (![n] : Fin 1 → ℕ) a + (![16] : Fin 1 → ℕ) a ≤ S8192.size a) :
    (View.whole cc0_scratch0 : View sig .scVector .vmem S8192 .f32).readAt (Elt F) (Rect.unit (s := S8192) ![n] ![16] h).toLoadRect (View.write (Elt F) (View.whole cc0_scratch0 : View sig .scVector .vmem S8192 .f32) g f Finset.univ) = rowAt f n := by
  funext l
  rw [show View.write (Elt F) (View.whole cc0_scratch0 : View sig .scVector .vmem S8192 .f32) g f Finset.univ = f from View.write_whole_univ _ _ _]
  simp only [View.readAt_apply, Memref.view_whole, View.read_whole]
  unfold rowAt
  congr 1; funext a; apply Fin.ext
  have h0 : n + 16 ≤ 8192 := h 0
  have h1 : (l 0).val < 16 := (l 0).isLt
  match a with
  | ⟨0, _⟩ =>
    rw [LoadRect.idx_apply]
    show n + 1 * (l 0).val = (n + (l 0).val) % 8192
    rw [Nat.mod_eq_of_lt (by omega)]; omega
/-- Sixteen words loaded from the targets' scratch. -/
theorem load_sT (g f : S64.Idx → Elt F .i32) (n : ℕ) (h : ∀ a, (![n] : Fin 1 → ℕ) a + (![16] : Fin 1 → ℕ) a ≤ S64.size a) :
    (View.whole cc0_scratch1 : View sig .scVector .vmem S64 .i32).readAt (Elt F) (Rect.unit (s := S64) ![n] ![16] h).toLoadRect (View.write (Elt F) (View.whole cc0_scratch1 : View sig .scVector .vmem S64 .i32) g f Finset.univ) = grpAt f n := by
  funext l
  rw [show View.write (Elt F) (View.whole cc0_scratch1 : View sig .scVector .vmem S64 .i32) g f Finset.univ = f from View.write_whole_univ _ _ _]
  simp only [View.readAt_apply, Memref.view_whole, View.read_whole]
  unfold grpAt
  congr 1; funext a; apply Fin.ext
  have h0 : n + 16 ≤ 64 := h 0
  have h1 : (l 0).val < 16 := (l 0).isLt
  match a with
  | ⟨0, _⟩ =>
    rw [LoadRect.idx_apply]
    show n + 1 * (l 0).val = (n + (l 0).val) % 64
    rw [Nat.mod_eq_of_lt (by omega)]; omega

/-- One word taken out of a vector of sixteen. -/
theorem extract_one {α : Type} (v : S16.Idx → α) (r : ℕ) (h : S16.Slices ![r] S1) (h' : ∀ a, (![0] : Fin 1 → ℕ) a < S1.size a) :
    extractAt ![0] (extractStridedSlice S1 ![r] v h) h' = v (ix1 ⟨r % 16, Nat.mod_lt _ (by decide)⟩) := by
  have h2 : r + 1 ≤ 16 := h.2 0
  unfold extractAt
  refine extractStridedSlice_apply _ _ _ _ _ fun a => ?_
  match a with
  | ⟨0, _⟩ => show r % 16 = r + 0; omega

set_option maxRecDepth 16384 in
set_option maxHeartbeats 4000000 in
/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ goRow X T' O' d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L xV (Memref.isWhole_whole _) tV (Memref.isWhole_whole _) oV (Memref.isWhole_whole _)
            sX (Memref.isWhole_whole _) sT (Memref.isWhole_whole _) sO (Memref.isWhole_whole _) cc0_scoped0 cc0_scoped1 cc0_scoped2)
          fun _ => iprop(tdRow X T' d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  simp only [k0_part19_eq_skeleton]; unfold k0_part19_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  iintro ⟨#Hlv, -, ⟨Hx, Ht, Ho⟩, ⟨⟨%fx, Hsx⟩, ⟨%ft, Hst⟩, ⟨%fo, Hso⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRowK (F := F) d L _).symm) $$ Hx
  ihave Ht' := (Entails.of_eq (pts_tRowK (F := F) d L _).symm) $$ Ht
  ihave Ho' := (Entails.of_eq (pts_oRowK (F := F) d L _).symm) $$ Ho
  ihave Hsx' := (Entails.of_eq (pts_sX (F := F) d L _).symm) $$ Hsx
  ihave Hst' := (Entails.of_eq (pts_sT (F := F) d L _).symm) $$ Hst
  ihave Hso' := (Entails.of_eq (pts_sO (F := F) d L _).symm) $$ Hso
  sl_exec
  sl_step
  have hval : tile_body.sl.dma70 X T' d L fx ft fo = tileVal (tile_body.sl.dma0_1 X d L) (tile_body.sl.dma0 T' d L) := by
    unfold tile_body.sl.dma70 tile_body.sl.Hso'_1
    generalize tile_body.sl.dma0_1 X d L = x
    generalize tile_body.sl.dma0 T' d L = t
    refine (View.read_writes_full _ _ _ _ _).trans ?_
    repeat rw [load_sX]
    repeat rw [load_sT]
    simp only [k0_pay1, k0_pay2, k0_pay3, k0_pay4, k0_pay5, k0_pay6, k0_pay7, k0_pay8, k0_pay9, k0_pay10,
      k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48,
      shapeCast_self, extract_one]
    simp only [tileVal, laneSum, laneAdd, cntAdd, rowVec, grpVec, tgt, Nat.reduceMul, Nat.reduceDiv, Nat.reduceMod]
  rw [hval, show tile_body.sl.dma0_1 X d L = xPart (X d) (wL L) from xRowK_read L _, show tile_body.sl.dma0 T' d L = tPart (T' d) (wL L) from tRowK_read L _]
  isplitl [Hx' Ht' Ho']
  · isplitl [Hx']; · iapply (Entails.of_eq (pts_xRowK (F := F) d L _)); iexact Hx'
    isplitl [Ht']; · iapply (Entails.of_eq (pts_tRowK (F := F) d L _)); iexact Ht'
    iapply (Entails.of_eq (pts_oRowK (F := F) d L _))
    iapply (Entails.of_eq (pointsTo_congr (out_row d L (O' d) (X d) (T' d)))); iexact Ho'
  isplitl [Hsx' Hst' Hso' Hbufs]
  · isplitl [Hsx']; · iexists _; iexact Hsx'
    isplitl [Hst']; · iexists _; iexact Hst'
    isplitl [Hso']; · iexists _; iexact Hso'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Run

end
-- ==== Proof.Call.lean ====
/-
  The SparseCore call as @main's TensorCore makes it: each tile's task meets the launch's obligation, and the three
  operands held whole are the thirty-two tiles' shares.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MM F

variable (X : (d : Dev nD) → Buf (Elt F) (xLoc d)) (T' : (d : Dev nD) → Buf (Elt F) (tLoc d)) (O' : (d : Dev nD) → Buf (Elt F) (oLoc d))

/-! ## The tiles' obligation -/

/-- The grid's coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- The body table at a tile is the task at the tile's coordinates. -/
theorem defs₀_vector (c : Fin τ.nSC) (s : Fin τ.nSub) :
    defs₀ (F := F) (.scVector c s) 0 ()
      = SparseCore.onTile hcore0 hsub0 (fun c s => cc0_sc_kernel (coordsV c s)
          xV (Memref.isWhole_whole _) tV (Memref.isWhole_whole _) oV (Memref.isWhole_whole _)
          sX (Memref.isWhole_whole _) sT (Memref.isWhole_whole _) sO (Memref.isWhole_whole _) cc0_scoped0 cc0_scoped1 cc0_scoped2) ⟨⟩ c s := rfl

omit [FloatOps F] [Named F] in
/-- The waits a task recorded, in the wider form the launch asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, as the launch asks for it. -/
theorem tileObl (hF : (K (F := F)).Facts) : (K (F := F)).TileObl (D (F := F)) 𝒱 (P X T' O') v₀ 0 := by
  intro d c i O W hO _ _
  simp only [show (P X T' O').ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X T' O' d (coordsV ⟨_, hci.1⟩ ⟨_, hci.2⟩) hF O W hO).trans (wp_mono frame _ _ fun _ => obl_post)

omit [FloatOps F] [Named F] in
/-- A SparseCore's subcores, numbered as the launch numbers them. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is handed is what its tiles are handed. -/
theorem vecSplit : (K (F := F)).VecSplit' (P X T' O') 0 := by
  intro d c
  show (bigSep Finset.univ fun i : Fin 16 => goRow X T' O' d (wid (Fin.cast nCore_zero c) i)) ⊢ |={Set.univ}=> iprop(
      (bigSep Finset.univ fun i : Fin ((K (F := F)).nSub 0) => goRow X T' O' d (wid (Fin.cast nCore_zero c) (Fin.cast nSub_zero i)))
      ∗ ((bigSep Finset.univ fun i : Fin ((K (F := F)).nSub 0) => tdRow X T' d (wid (Fin.cast nCore_zero c) (Fin.cast nSub_zero i)))
          -∗ bigSep Finset.univ fun i : Fin 16 => tdRow X T' d (wid (Fin.cast nCore_zero c) i)))
  rw [bigSep_tasks (F := F) (fun i => goRow X T' O' d (wid (Fin.cast nCore_zero c) i)),
    bigSep_tasks (F := F) (fun i => tdRow X T' d (wid (Fin.cast nCore_zero c) i))]
  iintro H; imodintro
  isplitl [H]; · iexact H
  iintro H; iexact H

/-! ## The operands whole are the tiles' shares -/

omit [FloatOps F] [Named F] in
theorem xRowSet_eq (w : Fin 32) : xRowSet w = (xrow w).set := by
  show ((View.whole (main_v2_scv : Ref sig .scVector)).slice (xrow w)).set = _
  rw [View.set_slice]; exact Finset.map_refl
omit [FloatOps F] [Named F] in
theorem tRowSet_eq (w : Fin 32) : tRowSet w = (trow w).set := by
  show ((View.whole (main_arg1_scv : Ref sig .scVector)).slice (trow w)).set = _
  rw [View.set_slice]; exact Finset.map_refl
omit [FloatOps F] [Named F] in
theorem oRowSet_eq (w : Fin 32) : oRowSet w = (orow w).set := by
  show ((View.whole (main_v3_scv : Ref sig .scVector)).slice (orow w)).set = _
  rw [View.set_slice]; exact Finset.map_refl

omit [FloatOps F] [Named F] in
theorem xrows_disjoint : ∀ i ∈ (Finset.univ : Finset (Fin 32)), ∀ j ∈ (Finset.univ : Finset (Fin 32)), i ≠ j → Disjoint (xRowSet i) (xRowSet j) :=
  fun i _ j _ h => by rw [xRowSet_eq, xRowSet_eq]; exact Rect.part_disjoint xdiv h
omit [FloatOps F] [Named F] in
theorem trows_disjoint : ∀ i ∈ (Finset.univ : Finset (Fin 32)), ∀ j ∈ (Finset.univ : Finset (Fin 32)), i ≠ j → Disjoint (tRowSet i) (tRowSet j) :=
  fun i _ j _ h => by rw [tRowSet_eq, tRowSet_eq]; exact Rect.part_disjoint tdiv h
omit [FloatOps F] [Named F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] [Named F] in
theorem xrows_cover : (Finset.univ : Finset (Fin 32)).biUnion xRowSet = Finset.univ :=
  (Finset.biUnion_congr rfl fun i _ => xRowSet_eq i).trans (Rect.biUnion_part xdiv)
omit [FloatOps F] [Named F] in
theorem trows_cover : (Finset.univ : Finset (Fin 32)).biUnion tRowSet = Finset.univ :=
  (Finset.biUnion_congr rfl fun i _ => tRowSet_eq i).trans (Rect.biUnion_part tdiv)
omit [FloatOps F] [Named F] in
theorem orows_cover : (Finset.univ : Finset (Fin 32)).biUnion oRowSet = Finset.univ :=
  (Finset.biUnion_congr rfl fun i _ => oRowSet_eq i).trans (Rect.biUnion_part odiv)

omit [FloatOps F] [Named F] in
theorem xPts_rows (d : Dev nD) (f : Buf (Elt F) (xLoc d)) :
    (xLoc d ↦{fullShare} f : sProp 𝕄) = bigSep Finset.univ fun i : Fin 32 => xLoc d ↦[xRowSet i]{fullShare} f := by
  rw [← pointsTo_biUnion Finset.univ (ℓ := xLoc d) xRowSet xrows_disjoint, xrows_cover]; try rfl
omit [FloatOps F] [Named F] in
theorem tPts_rows (d : Dev nD) (f : Buf (Elt F) (tLoc d)) :
    (tLoc d ↦{fullShare} f : sProp 𝕄) = bigSep Finset.univ fun i : Fin 32 => tLoc d ↦[tRowSet i]{fullShare} f := by
  rw [← pointsTo_biUnion Finset.univ (ℓ := tLoc d) tRowSet trows_disjoint, trows_cover]; try rfl
omit [FloatOps F] [Named F] in
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]; try rfl

/-- The thirty-two tiles are the sixteen subcores of two SparseCores. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_) <;> simp only [wid] <;> omega
  right_inv w := Fin.ext (by simp only [wid]; omega)

omit [FloatOps F] [Named F] in
/-- A conjunction over the tiles, by SparseCore and subcore. -/
theorem bigSep_tiles (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

omit [FloatOps F] [Named F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call is given: the three operands whole. -/
theorem st0_eq (d : Dev nD) : (bigSep Finset.univ fun c : Fin ((K (F := F)).nCore 0) => (P X T' O').st 0 d c)
    = iprop((xLoc d ↦{fullShare} X d) ∗ (tLoc d ↦{fullShare} T' d) ∗ oLoc d ↦{fullShare} O' d) := by
  show (bigSep Finset.univ fun c : Fin ((K (F := F)).nCore 0) => bigSep Finset.univ fun i : Fin 16 => goRow X T' O' d (wid (Fin.cast nCore_zero c) i)) = _
  rw [bigSep_cores (F := F) (fun c => bigSep Finset.univ fun i : Fin 16 => goRow X T' O' d (wid c i)), ← bigSep_tiles (F := F) (fun w => goRow X T' O' d w)]
  rw [bigSep_sep', bigSep_sep', xPts_rows, tPts_rows, oPts_rows]
/-- What the call gives back: the output at the tiles' vectors. -/
theorem dn0_eq (d : Dev nD) : (bigSep Finset.univ fun c : Fin ((K (F := F)).nCore 0) => (P X T' O').dn 0 d c)
    = iprop((xLoc d ↦{fullShare} X d) ∗ (tLoc d ↦{fullShare} T' d) ∗ oLoc d ↦{fullShare} scOut (X d) (T' d)) := by
  show (bigSep Finset.univ fun c : Fin ((K (F := F)).nCore 0) => bigSep Finset.univ fun i : Fin 16 => tdRow X T' d (wid (Fin.cast nCore_zero c) i)) = _
  rw [bigSep_cores (F := F) (fun c => bigSep Finset.univ fun i : Fin 16 => tdRow X T' d (wid c i)), ← bigSep_tiles (F := F) (fun w => tdRow X T' d w)]
  rw [bigSep_sep', bigSep_sep', xPts_rows, tPts_rows, oPts_rows]

end Cert.Proof.Run

end
-- ==== Proof.Body.lean ====
/-
  One grid point of the TensorCore call: it reads a block of sixteen rows and their sixteen targets, and adds the
  block's loss to the running sum (which it zeroes first at the first point).
-/
module

public import proofs.«01_k».proof.Proof.Setup
public import Idealize.ShloMosaic.Lib.VecWindow

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F] [Named F]

local notation "𝕄" => MM F

/-- The word the running sum is zeroed to. -/
abbrev zeroF : F .f32 := Scalar.ofBits .f32 0x00000000#32

/-- The one-word rectangle's multi-index, as the body's loads name it. -/
abbrev iW : S1x1.Idx := Shape.Idx.first (s := S1x1) (numel1_S1x1.symm ▸ Nat.one_pos)

/-- The first-point test of the body, as a fact of the coordinate. -/
theorem cond_pos (n : ℕ) (h : n = 0) :
    Scalar.cmpi .ne (Scalar.extui (Scalar.cmpi .eq (BitVec.ofNat 32 n) 0#32) : BitVec 32) 0#32 = 1#1 := by
  subst h; decide
/-- The test fails at every later point. -/
theorem cond_neg (n : ℕ) (hn : n < 128) (h : n ≠ 0) :
    ¬ Scalar.cmpi .ne (Scalar.extui (Scalar.cmpi .eq (BitVec.ofNat 32 n) 0#32) : BitVec 32) 0#32 = 1#1 := by
  interval_cases n
  · exact absurd rfl h
  all_goals decide

set_option maxRecDepth 16384 in
set_option maxHeartbeats 1000000 in
/-- The body at a point other than the first: the block's loss is added to what the word held. -/
theorem tc_body_acc (c : Dev nD) (i : grid1.Coords) (h0 : (i 0).val ≠ 0)
    (M1 : Memref sig .tc .vmem S16x100000 .f32) (hM1 : M1.IsWhole) (M2 : Memref sig .tc .vmem S1x1x16 .i32) (hM2 : M2.IsWhole)
    (M3 : Memref sig .tc .smem S1x1 .f32) (hM3 : M3.IsWhole)
    (x : S16x100000.Idx → Elt F .f32) (t : S1x1x16.Idx → Elt F .i32) (a : S1x1.Idx → Elt F .f32) (Q : PUnit → sProp 𝕄) :
    iprop(owns (c : Thread nD τ) M1 fullShare x ∗ owns (c : Thread nD τ) M2 fullShare t ∗ owns (c : Thread nD τ) M3 fullShare a
        ∗ (iprop(owns (c : Thread nD τ) M1 fullShare x ∗ owns (c : Thread nD τ) M2 fullShare t
            ∗ owns (c : Thread nD τ) M3 fullShare (fun _ => k1_pay1 x t (a iW))) -∗ Q ⟨⟩))
      ⊢ wp frame (wpE (defs₀ (F := F)) 𝒱₀ (c : Thread nD τ) none) Set.univ (cc1__tc_main_body i M1 hM1 M2 hM2 M3 hM3) Q := by
  simp only [cc1__tc_main_body_eq_skeleton]; unfold cc1__tc_main_body_skel
  have hc := cond_neg (i 0).val (i 0).isLt h0
  simp only [smemLoad, smemLoadElt, Prog.lift, Prog.bind_op, Prog.bind_ret, Prog.pure_eq_ret, Prog.bind_assoc, dif_neg hc]
  unfold owns
  iintro ⟨⟨%f1, %h1, H1⟩, ⟨%f2, %h2, H2⟩, ⟨%f3, %h3, H3⟩, Hk⟩
  sl_exec
  sl_step
  iapply Hk
  isplitl [H1]; · iexists f1; isplitr; · ipureintro; exact h1
                  iexact H1
  isplitl [H2]; · iexists f2; isplitr; · ipureintro; exact h2
                  iexact H2
  iexists _; isplitr
  swap; · iexact H3
  ipureintro
  rw [View.read_writes_full]
  funext _
  congr 1
  · exact (View.readAt_full M1.view f1 _).trans h1
  · exact (View.readAt_full M2.view f2 _).trans h2
  · rw [← h3]; exact congrFun (View.readAt_full M3.view f3 _) _

set_option maxRecDepth 16384 in
set_option maxHeartbeats 1000000 in
/-- The body at the first point: the word is zeroed before the block's loss is added. -/
theorem tc_body_zero (c : Dev nD) (i : grid1.Coords) (h0 : (i 0).val = 0)
    (M1 : Memref sig .tc .vmem S16x100000 .f32) (hM1 : M1.IsWhole) (M2 : Memref sig .tc .vmem S1x1x16 .i32) (hM2 : M2.IsWhole)
    (M3 : Memref sig .tc .smem S1x1 .f32) (hM3 : M3.IsWhole)
    (x : S16x100000.Idx → Elt F .f32) (t : S1x1x16.Idx → Elt F .i32) (a : S1x1.Idx → Elt F .f32) (Q : PUnit → sProp 𝕄) :
    iprop(owns (c : Thread nD τ) M1 fullShare x ∗ owns (c : Thread nD τ) M2 fullShare t ∗ owns (c : Thread nD τ) M3 fullShare a
        ∗ (iprop(owns (c : Thread nD τ) M1 fullShare x ∗ owns (c : Thread nD τ) M2 fullShare t
            ∗ owns (c : Thread nD τ) M3 fullShare (fun _ => k1_pay1 x t zeroF)) -∗ Q ⟨⟩))
      ⊢ wp frame (wpE (defs₀ (F := F)) 𝒱₀ (c : Thread nD τ) none) Set.univ (cc1__tc_main_body i M1 hM1 M2 hM2 M3 hM3) Q := by
  simp only [cc1__tc_main_body_eq_skeleton]; unfold cc1__tc_main_body_skel
  have hc := cond_pos (i 0).val h0
  simp only [smemLoad, smemLoadElt, Prog.lift, Prog.bind_op, Prog.bind_ret, Prog.pure_eq_ret, Prog.bind_assoc, dif_pos hc]
  unfold owns
  iintro ⟨⟨%f1, %h1, H1⟩, ⟨%f2, %h2, H2⟩, ⟨%f3, %h3, H3⟩, Hk⟩
  sl_exec
  sl_step
  iapply Hk
  isplitl [H1]; · iexists f1; isplitr; · ipureintro; exact h1
                  iexact H1
  isplitl [H2]; · iexists f2; isplitr; · ipureintro; exact h2
                  iexact H2
  iexists _; isplitr
  swap; · iexact H3
  ipureintro
  rw [View.read_writes_full]
  funext _
  congr 1
  · exact (View.readAt_full M1.view f1 _).trans h1
  · exact (View.readAt_full M2.view f2 _).trans h2

end Cert.Proof.Run

end
-- ==== Proof.Region.lean ====
/-
  The TensorCore call: what each window holds point by point, the running sum, the body at every point, and the
  region from its operands and the zeroed rest to the sum in the result's word.
-/
module

public import proofs.«01_k».proof.Proof.Body
public import Idealize.ShloMosaic.Lib.Pipeline.ValueKit
public import Idealize.ShloMosaic.Lib.Pipeline.Frame

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Pipeline (Dat Cfg Window BodyObligation cellOf)

variable {F : FTy → Type}

local notation "𝕄" => MM F

/-! ## The blocks and the running sum -/

/-- Rows `16 n … 16 n + 15` of the predictions. -/
def xBlk (X : S2048x100000.Idx → Elt F .f32) (n : ℕ) : S16x100000.Idx → Elt F .f32 :=
  fun j => X (ValueIdx.ix2 ⟨(16 * n + (j 0).val) % 2048, Nat.mod_lt _ (by omega)⟩ (j 1))
/-- The targets of those rows, out of the targets laid out by block. -/
def tBlk (T3 : S128x1x16.Idx → Elt F .i32) (n : ℕ) : S1x1x16.Idx → Elt F .i32 :=
  fun j => T3 (ValueIdx.ix3 ⟨n % 128, Nat.mod_lt _ (by omega)⟩ (j 1) (j 2))

variable [FloatOps F] [Named F]

/-- The running sum after block `n`. -/
def accVal (X : S2048x100000.Idx → Elt F .f32) (T3 : S128x1x16.Idx → Elt F .i32) : ℕ → F .f32
  | 0 => k1_pay1 (xBlk X 0) (tBlk T3 0) zeroF
  | n + 1 => k1_pay1 (xBlk X (n + 1)) (tBlk T3 (n + 1)) (accVal X T3 n)

theorem accVal_of_pos (X : S2048x100000.Idx → Elt F .f32) (T3 : S128x1x16.Idx → Elt F .i32) (n : ℕ) (h : n ≠ 0) :
    accVal X T3 n = k1_pay1 (xBlk X n) (tBlk T3 n) (accVal X T3 (n - 1)) := by
  cases n with
  | zero => exact absurd rfl h
  | succ n => rfl

/-! ## The pipeline's proof data -/

/-- The levels the core's earlier waits sit at or below. -/
def waited (c : Dev nD) : Set (SemLoc sig × HIx 1) := {p | (K (F := F)).lev (SparseCore.T c, p.1) p.2 ≤ 8}

/-- The proof data on core `c`: the arrays at their entry contents, each input's staging buffer at its block and the
    result's at the running sum, nothing owed. -/
def dat (X : S2048x100000.Idx → Elt F .f32) (T3 : S128x1x16.Idx → Elt F .i32) (O4 : S1x1.Idx → Elt F .f32) (c : Dev nD) :
    Dat τ (Elt F) (HIx 1) ℕ UU ℕ cfg1 c where
  A w := match w with
    | ⟨0, _⟩ => X
    | ⟨1, _⟩ => T3
    | ⟨2, _⟩ => O4
  after w t := match w with
    | ⟨0, _⟩ => xBlk X t.val
    | ⟨1, _⟩ => tBlk T3 t.val
    | ⟨2, _⟩ => fun _ => accVal X T3 t.val
  Φ _ := BI.emp
  q _ := fullShare
  owed _ := 0
  recorded _ := waited (F := F) c

variable (X : S2048x100000.Idx → Elt F .f32) (T3 : S128x1x16.Idx → Elt F .i32) (O4 : S1x1.Idx → Elt F .f32)

/-- The point's coordinate is its number. -/
theorem coord_val (t : Fin grid1.N) : (grid1.coords t 0).val = t.val := by
  have h := N_1
  revert t; decide +kernel

theorem index0 : ∀ t : Fin grid1.N, win1_0.index t = ![t.val, 0] := by decide +kernel
theorem index1 : ∀ t : Fin grid1.N, win1_1.index t = ![t.val, 0, 0] := by decide +kernel

/-- Where block `t` of the predictions sits. -/
theorem emb0 (t : Fin grid1.N) (j : S16x100000.Idx) (a : Fin 2) :
    ((win1_0.blk t).view.emb j a).val
      = (ValueIdx.ix2 (⟨(16 * t.val + (j 0).val) % 2048, Nat.mod_lt _ (by omega)⟩ : Fin 2048) (j 1 : Fin 100000) a).val := by
  have ht : t.val < 128 := N_1 ▸ t.isLt
  have hj : (j 0).val < 16 := (j 0).isLt
  match a with
  | 0 =>
    refine (Pipeline.Window.rect_emb_val win1_0 t j 0 rfl).trans ?_
    rw [index0]
    show t.val * 16 + (j 0).val = (16 * t.val + (j 0).val) % 2048
    omega
  | 1 =>
    refine (Pipeline.Window.rect_emb_val win1_0 t j 1 rfl).trans ?_
    rw [index0]
    show 0 * 100000 + (j 1).val = (j 1).val
    omega

/-- Where block `t` of the targets sits. -/
theorem emb1 (t : Fin grid1.N) (j : S1x1x16.Idx) (a : Fin 3) :
    ((win1_1.blk t).view.emb j a).val
      = (ValueIdx.ix3 (⟨t.val % 128, Nat.mod_lt _ (by omega)⟩ : Fin 128) (j 1 : Fin 1) (j 2 : Fin 16) a).val := by
  have ht : t.val < 128 := N_1 ▸ t.isLt
  have hj : (j 0).val < 1 := (j 0).isLt
  match a with
  | 0 =>
    refine (Pipeline.Window.rect_emb_val win1_1 t j 0 rfl).trans ?_
    rw [index1]
    show t.val * 1 + (j 0).val = t.val % 128
    omega
  | 1 =>
    refine (Pipeline.Window.rect_emb_val win1_1 t j 1 rfl).trans ?_
    rw [index1]
    show 0 * 1 + (j 1).val = (j 1).val
    omega
  | 2 =>
    refine (Pipeline.Window.rect_emb_val win1_1 t j 2 rfl).trans ?_
    rw [index1]
    show 0 * 16 + (j 2).val = (j 2).val
    omega

theorem before0 (c : Dev nD) (t : Fin cfg1.N) (d) : (dat X T3 O4 c).before 0 t d = xBlk X t.val := by
  rw [Dat.before_fetched _ 0 t (fetch1_0 t)]
  unfold Dat.fetched Dat.blockOf
  dsimp only [dat]
  funext j
  refine congrArg X (funext fun a => Fin.ext ?_)
  exact emb0 t j a

theorem before1 (c : Dev nD) (t : Fin cfg1.N) (d) : (dat X T3 O4 c).before 1 t d = tBlk T3 t.val := by
  rw [Dat.before_fetched _ 1 t (fetch1_1 t)]
  unfold Dat.fetched Dat.blockOf
  dsimp only [dat]
  funext j
  refine congrArg T3 (funext fun a => Fin.ext ?_)
  exact emb1 t j a

theorem before2 (c : Dev nD) (t : Fin cfg1.N) (h : t.val ≠ 0) (d) :
    (dat X T3 O4 c).before 2 t d = fun _ => accVal X T3 (t.val - 1) := by
  rw [Dat.before_out_kept _ 2 rfl t h (by
    rw [Bool.eq_false_iff]; intro hf
    have := (flush1_2 _).mp hf
    have ht : t.val < 128 := N_1 ▸ t.isLt
    simp only at this
    omega) (fun _ => rfl) (fun _ _ => rfl)]
  dsimp only [dat]

set_option maxRecDepth 16384 in
/-- The body at every point. -/
theorem body_obligation (c : Dev nD) : BodyObligation (dat X T3 O4 c) (defs₀ (F := F)) 𝒱₀ none Set.univ := fun t => by
  rw [bigSep_W1, bigSep_W1]
  show _ ⊢ wp frame (wpE (defs₀ (F := F)) 𝒱₀ c none) Set.univ (bodyAt1 t) _
  rw [show (dat X T3 O4 c).Φ t.castSucc = BI.emp from rfl, show (dat X T3 O4 c).Φ t.succ = BI.emp from rfl]
  unfold Dat.owesAt
  rw [show (dat X T3 O4 c).owed t.castSucc = 0 from rfl, show (dat X T3 O4 c).owed t.succ = 0 from rfl,
    show (dat X T3 O4 c).bound none t.succ = (dat X T3 O4 c).bound none t.castSucc from rfl]
  dsimp only
  iintro ⟨-, HO, ⟨%d0, H0⟩, ⟨%d1, H1⟩, ⟨%d2, H2⟩⟩
  rw [before0, before1]
  by_cases ht : t.val = 0
  · iapply (tc_body_zero c (grid1.coords t) ((coord_val t).trans ht) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (xBlk X t.val) (tBlk T3 t.val) _ _)
    isplitl [H0]; · iexact H0
    isplitl [H1]; · iexact H1
    isplitl [H2]; · iexact H2
    iintro ⟨H0, H1, H2⟩
    isplitr; · iempintro
    isplitl [HO]; · iexact HO
    dsimp only [dat]
    rw [ht]
    isplitl [H0]; · iexact H0
    isplitl [H1]; · iexact H1
    iexact H2
  · rw [before2 X T3 O4 c t ht]
    iapply (tc_body_acc c (grid1.coords t) (fun h => ht ((coord_val t).symm.trans h)) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (xBlk X t.val) (tBlk T3 t.val) (fun _ => accVal X T3 (t.val - 1)) _)
    isplitl [H0]; · iexact H0
    isplitl [H1]; · iexact H1
    isplitl [H2]; · iexact H2
    iintro ⟨H0, H1, H2⟩
    isplitr; · iempintro
    isplitl [HO]; · iexact HO
    dsimp only [dat]
    rw [accVal_of_pos X T3 t.val ht]
    isplitl [H0]; · iexact H0
    isplitl [H1]; · iexact H1
    iexact H2

/-- The last grid point. -/
abbrev tLast : Fin cfg1.N := ⟨127, by rw [show cfg1.N = 128 from N_1]; omega⟩

/-- After the run the result's word is the running sum over all blocks. -/
theorem final2 (c : Dev nD) : (dat X T3 O4 c).arrAt 2 cfg1.N = fun _ => accVal X T3 127 := by
  refine (dat X T3 O4 c).arrAt_eq_of_after_last 2 tLast (by decide +kernel) _ (fun j => ?_)
  dsimp only [dat]
  rfl

theorem final0 (c : Dev nD) : (dat X T3 O4 c).arrAt 0 cfg1.N = X := (dat X T3 O4 c).arrAt_in 0 rfl _
theorem final1 (c : Dev nD) : (dat X T3 O4 c).arrAt 1 cfg1.N = T3 := (dat X T3 O4 c).arrAt_in 1 rfl _

/-! ## The region -/

/-- No table is prefetched. -/
abbrev adm : (p : Fin 1) → (pcfgs (F := F) p).Adm := fun p => (cfgs p).toPCfg_adm

section Reg

variable (XX : Dev nD → S2048x100000.Idx → Elt F .f32) (TT : Dev nD → S128x1x16.Idx → Elt F .i32) (OO : Dev nD → S1x1.Idx → Elt F .f32)

/-- The proof data of the one call, on every core. -/
def pdats (_ : Fin 1) (c : Dev nD) : Dat τ (Elt F) (HIx 1) ℕ UU ℕ cfg1 c := dat (XX c) (TT c) (OO c) c

/-- What the core owes between the calls: nothing, its waits so far at or below the first call's levels. -/
abbrev owed1 (c : Dev nD) : sProp 𝕄 :=
  iprop(∃ W, ⌜(K (F := F)).WBelow (SparseCore.T c) W 8⌝ ∗ owes (c : Thread nD τ) (0 : CellTallies nD τ sig (HIx 1)) W)

/-- The bound on the waits at either end of the call is the one before it. -/
theorem owed_in (c : Dev nD) : owed1 c ⊢ ((pdats XX TT OO 0 c).owesAt none 0 : sProp 𝕄) := by
  unfold Dat.owesAt Pipeline.owesWithin
  iintro ⟨%W, %hW, HO⟩
  iexists W
  isplitr
  · ipureintro
    exact fun p hp => Or.inl (hW p hp)
  iexact HO
theorem owed_out (c : Dev nD) : ((pdats XX TT OO 0 c).owesAt none (Fin.last cfg1.N) : sProp 𝕄) ⊢ owed1 c := by
  unfold Dat.owesAt Pipeline.owesWithin
  iintro ⟨%W, %hW, HO⟩
  iexists W
  isplitr
  · ipureintro
    intro p hp
    rcases hW hp with h | ⟨w, s, h⟩
    · exact h
    · rw [h]; exact Nat.zero_le _
  iexact HO

theorem arrays_in (c : Dev nD) : iprop(((c : Thread nD τ).loc main_arg0 ↦{fullShare} XX c) ∗ ((c : Thread nD τ).loc main_v0 ↦{fullShare} TT c)
      ∗ ((c : Thread nD τ).loc main_v4 ↦{fullShare} OO c))
    = ((pdats XX TT OO 0 c).arrays ((pdats XX TT OO 0 c).arrAt · 0) : sProp 𝕄) := by
  rw [Pipeline.arrays_eq (Pipeline.pin (pcfgs (F := F)) adm) (pdats XX TT OO) 0 c arr_whole1 ((pdats XX TT OO 0 c).share_full fun _ => rfl), bigSep_W1]
  rfl
theorem arrays_out (c : Dev nD) : ((pdats XX TT OO 0 c).arrays ((pdats XX TT OO 0 c).arrAt · cfg1.N) : sProp 𝕄)
    = iprop(((c : Thread nD τ).loc main_arg0 ↦{fullShare} XX c) ∗ ((c : Thread nD τ).loc main_v0 ↦{fullShare} TT c)
      ∗ ((c : Thread nD τ).loc main_v4 ↦{fullShare} (fun _ => accVal (XX c) (TT c) 127 : S1x1.Idx → Elt F .f32))) := by
  rw [Pipeline.arrays_eq (Pipeline.pin (pcfgs (F := F)) adm) (pdats XX TT OO) 0 c arr_whole1 ((pdats XX TT OO 0 c).share_full fun _ => rfl), bigSep_W1]
  unfold pdats
  rw [final0, final1, final2]

set_option backward.isDefEq.respectTransparency.types false in
/-- The call: its operands and its result's word at anything, to the operands unchanged and the running sum over all
    blocks in the word. -/
def reg : Pipeline.RegionSeg (pcfgs (F := F)) adm (pdats XX TT OO) none defs₀ 𝒱₀ (K (F := F)).L (K (F := F)).lev 0 where
  win := winFacts1.to₀
  block_pos := block_pos1
  stage_whole := stage_whole1
  K := PEmpty
  osem := fun k => k.elim
  ho := Pipeline.OwnSemFacts.none spec1
  hbody c := (body_obligation (XX c) (TT c) (OO c) c).loose
  hwaits := Pipeline.hwaits_of_owed_zero _ _ _ _ (K (F := F)).L (K (F := F)).lev 0 fun _ _ => rfl
  pre c := iprop((((c : Thread nD τ).loc main_arg0 ↦{fullShare} XX c) ∗ ((c : Thread nD τ).loc main_v0 ↦{fullShare} TT c)
      ∗ ((c : Thread nD τ).loc main_v4 ↦{fullShare} OO c)) ∗ owed1 c)
  post c := iprop((((c : Thread nD τ).loc main_arg0 ↦{fullShare} XX c) ∗ ((c : Thread nD τ).loc main_v0 ↦{fullShare} TT c)
      ∗ ((c : Thread nD τ).loc main_v4 ↦{fullShare} (fun _ => accVal (XX c) (TT c) 127 : S1x1.Idx → Elt F .f32))) ∗ owed1 c)
  X _ := BI.emp
  Y _ := BI.emp
  Z _ := BI.emp
  hentry c := by
    rw [arrays_in XX TT OO c]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owed_in XX TT OO c); iexact HO
    isplitr <;> iempintro
  hin c := by
    show _ ⊢ (BI.emp : sProp 𝕄)
    iintro -; iempintro
  hout c := by
    rw [Pipeline.ownSems0_none]
    show (BI.emp : sProp 𝕄) ⊢ iprop(BI.emp ∗ BI.emp ∗ Pipeline.scopedRest spec1 c)
    rw [scopedRest1_eq]
    iintro -
    isplitr; · iempintro
    isplitr <;> iempintro
  hexit c := by
    show iprop((pdats XX TT OO 0 c).arrays ((pdats XX TT OO 0 c).arrAt · cfg1.N) ∗ (pdats XX TT OO 0 c).owesAt none (Fin.last cfg1.N) ∗ BI.emp ∗ BI.emp) ⊢ _
    rw [arrays_out XX TT OO c]
    iintro ⟨Ha, HO, -, -⟩
    imodintro
    isplitl [Ha]; · iexact Ha
    iapply (owed_out XX TT OO c); iexact HO

end Reg

end Cert.Proof.Run

end
-- ==== Proof.Main.lean ====
/-
  The program's run: @main on the TensorCore (the re-laid operands, the SparseCore call, the TensorCore call, the sum
  of the two results), the launch, and what every run ends with.
-/
module

public import proofs.«01_k».proof.Proof.Call
public import proofs.«01_k».proof.Proof.Region

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (m : (ℓ : Loc nD τ sig) → Buf (Elt F) ℓ) (ρ : Dev nD → PrngReg)

/-! ## The values -/

abbrev pLoc (d : Dev nD) : Loc nD τ sig := (SparseCore.T d).loc main_arg0
abbrev rLoc (d : Dev nD) : Loc nD τ sig := (SparseCore.T d).loc main_v7

/-- The predictions and the targets at launch. -/
abbrev predOf (d : Dev nD) : S2048x100000.Idx → Elt F .f32 := m (pLoc d)
abbrev tgtOf (d : Dev nD) : S2048.Idx → Elt F .i32 := m (tLoc d)

/-- The first 128 columns, flattened. -/
def xFlat (X : S2048x100000.Idx → Elt F .f32) : S262144.Idx → Elt F .f32 :=
  shapeCast S262144 (extractStridedSlice S2048x128 ![0, 0] X slices_S2048x100000_S2048x128_0_0) shapeCasts_S2048x128_S262144
/-- The targets by block of sixteen. -/
def tBlocks (Tg : S2048.Idx → Elt F .i32) : S128x1x16.Idx → Elt F .i32 :=
  shapeCast S128x1x16 Tg shapeCasts_S2048_S128x1x16

/-- The result. -/
def resultOf (X : S2048x100000.Idx → Elt F .f32) (Tg : S2048.Idx → Elt F .i32) : S_.Idx → Elt F .f32 :=
  addf (shapeCast S_ (fun _ : S1x1.Idx => accVal X (tBlocks Tg) 127) shapeCasts_S1x1_S_)
    (Host.reduceAdd (scOut (xFlat X) Tg) (constant S_ .f32 0x00000000#32) reducesTo_S32x16_S_d0_1 h_S_)

/-- The operands of the SparseCore call, on every core. -/
abbrev PP : (K (F := F)).Pay (nD := nD) (Val := Elt F) (Name := ℕ) (U := UU) := P (fun d => xFlat (predOf m d)) (fun d => tgtOf m d) (fun d => m (oLoc d))

/-! ## The launch's ghost element -/

/-- The handshakes' rounds and the pipeline's, at launch. -/
def u₀ : UU := (initOf (K (F := F)).hsCells (K (F := F)).hsToks, (initOf (Pipeline.cells cfgs cellOf_inj) (Pipeline.launchToks cfgs cellOf_inj), 1))

/-- What each core is dealt for its pipeline. -/
abbrev G (d : Dev nD) : sProp 𝕄 := iprop((bigSep Finset.univ fun p : Fin 1 => Pipeline.cellsGhost cfgs EP p d) ∗ bigSep Finset.univ fun p : Fin 1 => Pipeline.toksInit cfgs EP p d)

omit [FloatOps F] [Named F] in
/-- Nothing, for every index, is nothing. -/
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HP⟩
  ihave H := (own_pair_emb (embR : Emb (UP × Counters) 𝕄) (initOf (Pipeline.cells cfgs cellOf_inj) (Pipeline.launchToks cfgs cellOf_inj) : UP) (1 : Counters)) $$ HP
  icases H with ⟨HP, -⟩
  ihave HP := (show BI.own (((Emb.inl : Emb UP (UP × Counters)).trans (embR : Emb (UP × Counters) 𝕄)) (initOf (Pipeline.cells cfgs cellOf_inj) (Pipeline.launchToks cfgs cellOf_inj) : UP))
    ⊢ BI.own (EP (F := F) (initOf (Pipeline.cells cfgs cellOf_inj) (Pipeline.launchToks cfgs cellOf_inj))) from BI.Entails.refl _) $$ HP
  imod (Pipeline.fund_ghost cfgs EP cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_none]
  iempintro

/-! ## The arrays, as the host operations hold them -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev cst' : DevRef τ sig := Proc.devRef .tc (main_cst : Ref sig .tc)
abbrev v6' : DevRef τ sig := Proc.devRef .tc (main_v6 : Ref sig .tc)
abbrev v7' : DevRef τ sig := Proc.devRef .tc (main_v7 : Ref sig .tc)

abbrev op0 : HloOp τ sig (Elt F) := StableHlo.reshape main_arg1 main_v0 (rfl : (.i32 : EltTy) = .i32) shapeCasts_S2048_S128x1x16
abbrev op1 : HloOp τ sig (Elt F) := StableHlo.unary main_arg0 main_v1 ((extractStridedSlice S2048x128 ![0, 0] · slices_S2048x100000_S2048x128_0_0) : (⟨S2048x100000, .f32⟩ : BufTy).Contents (Elt F) → (⟨S2048x128, .f32⟩ : BufTy).Contents (Elt F))
abbrev op2 : HloOp τ sig (Elt F) := StableHlo.reshape main_v1 main_v2 (rfl : (.f32 : EltTy) = .f32) shapeCasts_S2048x128_S262144
abbrev op5 : HloOp τ sig (Elt F) := StableHlo.reshape main_v4 main_v5 (rfl : (.f32 : EltTy) = .f32) shapeCasts_S1x1_S_
abbrev opC : HloOp τ sig (Elt F) := StableHlo.nullary main_cst (constant S_ .f32 0x00000000#32)
abbrev op6 : HloOp τ sig (Elt F) := StableHlo.binary main_v3 main_cst main_v6 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev op7 : HloOp τ sig (Elt F) := StableHlo.binary main_v5 main_v6 main_v7 (addf : (⟨S_, .f32⟩ : BufTy).Contents (Elt F) → (⟨S_, .f32⟩ : BufTy).Contents (Elt F) → (⟨S_, .f32⟩ : BufTy).Contents (Elt F))

/-- The eleven arrays of @main. -/
abbrev S11 : Finset (DevRef τ sig) := {a0', a1', v0', v1', v2', v3', v4', v5', cst', v6', v7'}

/-- The eleven arrays, each whole at given contents. -/
abbrev allPts (d : Dev nD) (W : Valuation τ sig (Elt F)) : sProp 𝕄 :=
  iprop((pLoc d ↦{fullShare} W a0') ∗ (tLoc d ↦{fullShare} W a1') ∗ ((SparseCore.T d).loc main_v0 ↦{fullShare} W v0')
    ∗ ((SparseCore.T d).loc main_v1 ↦{fullShare} W v1') ∗ (xLoc d ↦{fullShare} W v2') ∗ (oLoc d ↦{fullShare} W v3')
    ∗ ((SparseCore.T d).loc main_v4 ↦{fullShare} W v4') ∗ ((SparseCore.T d).loc main_v5 ↦{fullShare} W v5')
    ∗ ((SparseCore.T d).loc main_cst ↦{fullShare} W cst') ∗ ((SparseCore.T d).loc main_v6 ↦{fullShare} W v6') ∗ rLoc d ↦{fullShare} W v7')

theorem held_S11 (d : Dev nD) (W : Valuation τ sig (Elt F)) : (held (T d) S11 W : sProp 𝕄) = allPts d W := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents, and the contents before the SparseCore call. -/
def V0 (d : Dev nD) : Valuation τ sig (Elt F) := fun b => m (d, b)
def V3 (d : Dev nD) : Valuation τ sig (Elt F) := (op2 (F := F)).result ((op1 (F := F)).result ((op0 (F := F)).result (V0 m d)))
/-- After the two calls. -/
def V5 (d : Dev nD) : Valuation τ sig (Elt F) :=
  Function.update (Function.update (V3 m d) v3' (scOut (xFlat (predOf m d)) (tgtOf m d))) v4'
    (fun _ => accVal (predOf m d) (tBlocks (tgtOf m d)) 127 : S1x1.Idx → Elt F .f32)
/-- At the end. -/
def V9 (d : Dev nD) : Valuation τ sig (Elt F) := (op7 (F := F)).result ((op6 (F := F)).result ((opC (F := F)).result ((op5 (F := F)).result (V5 m d))))

theorem unscoped_held (d : Dev nD) : (unscopedBufs d (fun b => m ((SparseCore.T d).loc b)) : sProp 𝕄) = held (T d) S11 (V0 m d) := by
  rw [held_S11]
  unfold unscopedBufs
  rw [show (Finset.univ.filter fun b : Ref sig .tc => ¬ b.isScoped) = {main_arg0, main_arg1, main_v0, main_v1, main_v2, main_v3, main_v4, main_v5, main_cst, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- An array none of the three operations before the calls writes is as launched. -/
theorem V3_of (d : Dev nD) (b : DevRef τ sig) (h0 : b ≠ v0') (h1 : b ≠ v1') (h2 : b ≠ v2') : V3 m d b = m (d, b) := by
  unfold V3
  rw [(op2 (F := F)).result_of_not_mem _ (show b ∉ ({v2'} : Finset (DevRef τ sig)) from fun h => h2 (Finset.mem_singleton.mp h)),
    (op1 (F := F)).result_of_not_mem _ (show b ∉ ({v1'} : Finset (DevRef τ sig)) from fun h => h1 (Finset.mem_singleton.mp h)),
    (op0 (F := F)).result_of_not_mem _ (show b ∉ ({v0'} : Finset (DevRef τ sig)) from fun h => h0 (Finset.mem_singleton.mp h))]
  rfl
theorem V3_v0 (d : Dev nD) : V3 m d v0' = tBlocks (tgtOf m d) := by
  unfold V3
  rw [(op2 (F := F)).result_of_not_mem _ (show v0' ∉ ({v2'} : Finset (DevRef τ sig)) by decide),
    (op1 (F := F)).result_of_not_mem _ (show v0' ∉ ({v1'} : Finset (DevRef τ sig)) by decide)]
  exact StableHlo.reshape_result _ _ _ _ _ _ _
theorem V3_v2 (d : Dev nD) : V3 m d v2' = xFlat (predOf m d) := by
  unfold V3 xFlat
  refine (StableHlo.reshape_result _ _ _ _ _ _ _).trans ?_
  rw [show (op1 (F := F)).result ((op0 (F := F)).result (V0 m d)) (Proc.devRef .tc main_v1)
      = extractStridedSlice S2048x128 ![0, 0] (predOf m d) slices_S2048x100000_S2048x128_0_0 from
    (StableHlo.unary_result _ _ _ _ _ _).trans (by
      rw [(op0 (F := F)).result_of_not_mem _ (show Proc.devRef .tc main_arg0 ∉ ({v0'} : Finset (DevRef τ sig)) by decide)]; rfl)]
  rfl

/-- The two calls' results, and the rest as it was. -/
theorem V5_v4 (d : Dev nD) : V5 m d v4' = (fun _ => accVal (predOf m d) (tBlocks (tgtOf m d)) 127 : S1x1.Idx → Elt F .f32) := Function.update_self _ _ _
theorem V5_v3 (d : Dev nD) : V5 m d v3' = scOut (xFlat (predOf m d)) (tgtOf m d) :=
  (Function.update_of_ne (show v3' ≠ v4' by decide) _ _).trans (Function.update_self _ _ _)
theorem V5_of (d : Dev nD) (b : DevRef τ sig) (h3 : b ≠ v3') (h4 : b ≠ v4') : V5 m d b = V3 m d b :=
  (Function.update_of_ne h4 _ _).trans (Function.update_of_ne h3 _ _)

/-- The result, and the arguments, at the end. -/
theorem V9_of (d : Dev nD) (b : DevRef τ sig) (h5 : b ≠ v5') (hc : b ≠ cst') (h6 : b ≠ v6') (h7 : b ≠ v7') : V9 m d b = V5 m d b := by
  unfold V9
  rw [(op7 (F := F)).result_of_not_mem _ (show b ∉ ({v7'} : Finset (DevRef τ sig)) from fun h => h7 (Finset.mem_singleton.mp h)),
    (op6 (F := F)).result_of_not_mem _ (show b ∉ ({v6'} : Finset (DevRef τ sig)) from fun h => h6 (Finset.mem_singleton.mp h)),
    (opC (F := F)).result_of_not_mem _ (show b ∉ ({cst'} : Finset (DevRef τ sig)) from fun h => hc (Finset.mem_singleton.mp h)),
    (op5 (F := F)).result_of_not_mem _ (show b ∉ ({v5'} : Finset (DevRef τ sig)) from fun h => h5 (Finset.mem_singleton.mp h))]
theorem V9_a0 (d : Dev nD) : V9 m d a0' = m (pLoc d) := by
  rw [V9_of m d _ (by decide) (by decide) (by decide) (by decide), V5_of m d _ (by decide) (by decide), V3_of m d _ (by decide) (by decide) (by decide)]
theorem V9_a1 (d : Dev nD) : V9 m d a1' = m (tLoc d) := by
  rw [V9_of m d _ (by decide) (by decide) (by decide) (by decide), V5_of m d _ (by decide) (by decide), V3_of m d _ (by decide) (by decide) (by decide)]
theorem V9_v7 (d : Dev nD) : V9 m d v7' = resultOf (predOf m d) (tgtOf m d) := by
  unfold V9 resultOf
  refine (StableHlo.binary_result _ _ _ _ _ _ _ _).trans ?_
  have e6 : (op6 (F := F)).result ((opC (F := F)).result ((op5 (F := F)).result (V5 m d))) v6'
      = Host.reduceAdd (scOut (xFlat (predOf m d)) (tgtOf m d)) (constant S_ .f32 0x00000000#32) reducesTo_S32x16_S_d0_1 h_S_ := by
    refine (StableHlo.binary_result _ _ _ _ _ _ _ _).trans ?_
    have ec : (opC (F := F)).result ((op5 (F := F)).result (V5 m d)) cst' = constant S_ .f32 0x00000000#32 := StableHlo.nullary_result _ _ _ _
    have e3 : (opC (F := F)).result ((op5 (F := F)).result (V5 m d)) v3' = scOut (xFlat (predOf m d)) (tgtOf m d) := by
      rw [(opC (F := F)).result_of_not_mem _ (show v3' ∉ ({cst'} : Finset (DevRef τ sig)) by decide),
        (op5 (F := F)).result_of_not_mem _ (show v3' ∉ ({v5'} : Finset (DevRef τ sig)) by decide), V5_v3]
    exact congrArg₂ (fun x v => Host.reduceAdd x v reducesTo_S32x16_S_d0_1 h_S_) e3 ec
  have e5 : (op6 (F := F)).result ((opC (F := F)).result ((op5 (F := F)).result (V5 m d))) v5'
      = shapeCast S_ (fun _ : S1x1.Idx => accVal (predOf m d) (tBlocks (tgtOf m d)) 127) shapeCasts_S1x1_S_ := by
    rw [(op6 (F := F)).result_of_not_mem _ (show v5' ∉ ({v6'} : Finset (DevRef τ sig)) by decide),
      (opC (F := F)).result_of_not_mem _ (show v5' ∉ ({cst'} : Finset (DevRef τ sig)) by decide)]
    refine (StableHlo.reshape_result _ _ _ _ _ _ _).trans ?_
    exact congrArg (fun x => shapeCast S_ x shapeCasts_S1x1_S_) (V5_v4 m d)
  exact congrArg₂ addf e5 e6

/-! ## @main on the TensorCore -/

theorem sub0 : (op0 (F := F)).bufs ⊆ S11 := show ({a1', v0'} : Finset (DevRef τ sig)) ⊆ S11 by decide
theorem sub1 : (op1 (F := F)).bufs ⊆ S11 := show ({a0', v1'} : Finset (DevRef τ sig)) ⊆ S11 by decide
theorem sub2 : (op2 (F := F)).bufs ⊆ S11 := show ({v1', v2'} : Finset (DevRef τ sig)) ⊆ S11 by decide
theorem sub5 : (op5 (F := F)).bufs ⊆ S11 := show ({v4', v5'} : Finset (DevRef τ sig)) ⊆ S11 by decide
theorem subC : (opC (F := F)).bufs ⊆ S11 := show ({cst'} : Finset (DevRef τ sig)) ⊆ S11 by decide
theorem sub6 : (op6 (F := F)).bufs ⊆ S11 := show ({v3', cst', v6'} : Finset (DevRef τ sig)) ⊆ S11 by decide
theorem sub7 : (op7 (F := F)).bufs ⊆ S11 := show ({v5', v6', v7'} : Finset (DevRef τ sig)) ⊆ S11 by decide

/-- The eleven arrays before the SparseCore call. -/
theorem held_V3 (d : Dev nD) :
    (held (T d) S11 ((op2 (F := F)).result ((op1 (F := F)).result ((op0 (F := F)).result (V0 m d)))) : sProp 𝕄)
      = iprop((pLoc d ↦{fullShare} predOf m d) ∗ (tLoc d ↦{fullShare} tgtOf m d) ∗ ((SparseCore.T d).loc main_v0 ↦{fullShare} tBlocks (tgtOf m d))
    ∗ ((SparseCore.T d).loc main_v1 ↦{fullShare} V3 m d v1') ∗ (xLoc d ↦{fullShare} xFlat (predOf m d)) ∗ (oLoc d ↦{fullShare} m (oLoc d))
    ∗ ((SparseCore.T d).loc main_v4 ↦{fullShare} m ((SparseCore.T d).loc main_v4)) ∗ ((SparseCore.T d).loc main_v5 ↦{fullShare} V3 m d v5')
    ∗ ((SparseCore.T d).loc main_cst ↦{fullShare} V3 m d cst') ∗ ((SparseCore.T d).loc main_v6 ↦{fullShare} V3 m d v6') ∗ rLoc d ↦{fullShare} V3 m d v7') := by
  show held (SparseCore.T d) S11 (V3 m d) = _
  rw [held_S11]
  unfold allPts
  rw [V3_v0, V3_v2, V3_of m d a0' (by decide) (by decide) (by decide), V3_of m d a1' (by decide) (by decide) (by decide),
    V3_of m d v3' (by decide) (by decide) (by decide), V3_of m d v4' (by decide) (by decide) (by decide)]
/-- The eleven arrays after the TensorCore call. -/
theorem held_V5 (d : Dev nD) :
    (held (T d) S11 (V5 m d) : sProp 𝕄)
      = iprop((pLoc d ↦{fullShare} predOf m d) ∗ (tLoc d ↦{fullShare} tgtOf m d) ∗ ((SparseCore.T d).loc main_v0 ↦{fullShare} tBlocks (tgtOf m d))
    ∗ ((SparseCore.T d).loc main_v1 ↦{fullShare} V3 m d v1') ∗ (xLoc d ↦{fullShare} xFlat (predOf m d)) ∗ (oLoc d ↦{fullShare} scOut (xFlat (predOf m d)) (tgtOf m d))
    ∗ ((SparseCore.T d).loc main_v4 ↦{fullShare} (fun _ => accVal (predOf m d) (tBlocks (tgtOf m d)) 127 : S1x1.Idx → Elt F .f32)) ∗ ((SparseCore.T d).loc main_v5 ↦{fullShare} V3 m d v5')
    ∗ ((SparseCore.T d).loc main_cst ↦{fullShare} V3 m d cst') ∗ ((SparseCore.T d).loc main_v6 ↦{fullShare} V3 m d v6') ∗ rLoc d ↦{fullShare} V3 m d v7') := by
  rw [held_S11]
  unfold allPts
  rw [V5_v3, V5_v4, V5_of m d a0' (by decide) (by decide), V5_of m d a1' (by decide) (by decide), V5_of m d v0' (by decide) (by decide),
    V5_of m d v1' (by decide) (by decide), V5_of m d v2' (by decide) (by decide), V5_of m d v5' (by decide) (by decide), V5_of m d cst' (by decide) (by decide),
    V5_of m d v6' (by decide) (by decide), V5_of m d v7' (by decide) (by decide),
    V3_v0, V3_v2, V3_of m d a0' (by decide) (by decide) (by decide), V3_of m d a1' (by decide) (by decide) (by decide)]

/-- What @main leaves the claims: the arguments as launched, the result. -/
abbrev FIN (d : Dev nD) : sProp 𝕄 :=
  iprop((pLoc d ↦{fullShare} predOf m d) ∗ (tLoc d ↦{fullShare} tgtOf m d) ∗ rLoc d ↦{fullShare} resultOf (predOf m d) (tgtOf m d))

/-- The arrays at the end give that. -/
theorem held_V9 (d : Dev nD) :
    (held (T d) S11 ((op7 (F := F)).result ((op6 (F := F)).result ((opC (F := F)).result ((op5 (F := F)).result (V5 m d))))) : sProp 𝕄) ⊢ FIN m d := by
  show held (SparseCore.T d) S11 (V9 m d) ⊢ _
  rw [held_S11]
  unfold allPts
  rw [V9_a0, V9_a1, V9_v7]
  iintro ⟨H0, H1, -, -, -, -, -, -, -, -, H7⟩
  isplitl [H0]; · iexact H0
  isplitl [H1]; · iexact H1
  iexact H7

/-- The TensorCore call's data on every core. -/
abbrev regM : Pipeline.RegionSeg (pcfgs (F := F)) adm
    (pdats (fun d => predOf m d) (fun d => tBlocks (tgtOf m d)) (fun d => m ((SparseCore.T d).loc main_v4))) none defs₀ 𝒱₀ (K (F := F)).L (K (F := F)).lev 0 :=
  reg (fun d => predOf m d) (fun d => tBlocks (tgtOf m d)) (fun d => m ((SparseCore.T d).loc main_v4))

/-- The call as the program's own, lifted. -/
theorem lift_call (d : Dev nD) : (Prog.lift (.customCall (SparseCore.inner (Pipeline.entry 0)) ())
      : Prog (TpuEff nD τ sig (Elt F) (SparseCore.Sig (ΛP (F := F)) 1) (SparseCore.T d).2) PUnit)
    = SparseCore.liftProg (.op (.customCall (Pipeline.entry 0) ()) .ret : Prog (TpuEff nD τ sig (Elt F) (ΛP (F := F)) (SparseCore.T d).2) PUnit) := by
  simp only [SparseCore.liftProg, TpuEff.inlProg, Prog.lift]
  rfl

/-- What the call is entered from, and what it leaves. -/
abbrev preR (d : Dev nD) : sProp 𝕄 :=
  iprop(((pLoc d ↦{fullShare} predOf m d) ∗ ((SparseCore.T d).loc main_v0 ↦{fullShare} tBlocks (tgtOf m d))
      ∗ ((SparseCore.T d).loc main_v4 ↦{fullShare} m ((SparseCore.T d).loc main_v4))) ∗ owed1 d)
abbrev postR (d : Dev nD) : sProp 𝕄 :=
  iprop(((pLoc d ↦{fullShare} predOf m d) ∗ ((SparseCore.T d).loc main_v0 ↦{fullShare} tBlocks (tgtOf m d))
      ∗ ((SparseCore.T d).loc main_v4 ↦{fullShare} (fun _ => accVal (predOf m d) (tBlocks (tgtOf m d)) 127 : S1x1.Idx → Elt F .f32))) ∗ owed1 d)

set_option backward.isDefEq.respectTransparency.types false in
/-- The TensorCore call as @main makes it. -/
theorem wp_region [∀ e, Nonempty (Elt F e)] (d : Dev nD) (Φ : PUnit → sProp 𝕄) :
    iprop((iprop(boundary (T d) ∗ postR m d) -∗ Φ ⟨⟩) ∗ boundary (T d) ∗ preR m d ∗ levAts (K (F := F)).L (K (F := F)).lev
        ∗ Pipeline.cellsGhost cfgs EP 0 d ∗ Pipeline.toksInit cfgs EP 0 d)
      ⊢ wp frame (wpE ((K (F := F)).defs (D (F := F))) 𝒱 (SparseCore.T d) none) Set.univ
          (Prog.lift (.customCall (SparseCore.inner (Pipeline.entry 0)) ())) Φ := by
  rw [lift_call]
  refine BI.Entails.trans ?_ ((K (F := F)).wp_liftProg (D (F := F)) 𝒱 (SparseCore.T d) Set.univ none _ Φ)
  refine BI.Entails.trans ?_ (Pipeline.RegionSeg.wp (pcfgs (F := F)) adm _ none cellOf_inj EP defs₀ 𝒱₀ (K (F := F)).L (K (F := F)).lev (regM m) d none
    (fun u hu => nomatch hu) .ret Φ)
  have hk : Φ ⟨⟩ ⊢ wp frame (wpE (D (F := F)) 𝒱 (SparseCore.T d) none) Set.univ (.ret ⟨⟩) Φ := by
    rw [wp_ret]
    iintro H
    imodintro
    iexact H
  exact (Laws.sep_mono (Laws.wand_mono .rfl hk) .rfl)

/-- Before the TensorCore call the core owes nothing, its waits at or below the first call's levels; the rest of its
    state is kept. -/
theorem tcSt_owed (d : Dev nD) : ((K (F := F)).tcSt EH d ((0 : Fin 1).val + 1) : sProp 𝕄)
    ⊢ iprop(owed1 d ∗ (owed1 d -∗ (K (F := F)).tcSt EH d 1)) := by
  show ((K (F := F)).tcSt EH d 1 : sProp 𝕄) ⊢ _
  unfold SparseCore.Cfg.tcSt
  rw [(K (F := F)).Otc_end d (le_refl 1)]
  iintro ⟨HO, Hr⟩
  isplitl [HO]; · iexact HO
  iintro HO
  isplitl [HO]; · iexact HO
  iexact Hr

/-- @main on a core: the operands re-laid, the SparseCore call, the TensorCore call, the two results summed. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, ⟨Hg, Ht⟩⟩
  ihave #Hlev := (SparseCore.Cfg.ctx_levAts (K := K (F := F)) (EH := EH) (P := PP m) κ) $$ Hctx
  iapply (wp_hlo_within 𝒱 (SparseCore.T d) none Set.univ (op := op0) (S := S11) sub0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S11) sub1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S11) sub2 (V := (op1 (F := F)).result ((op0 (F := F)).result (V0 m d)))) $$ [Hb Hheld]
  · isplitl [Hb] <;> iassumption
  iintro ⟨Hb, Hheld⟩
  rw [wp_ret]; imodintro
  -- the SparseCore call: the flattened columns, the targets and the output
  ihave Hh := (Entails.of_eq (held_V3 (F := F) m d)) $$ Hheld
  icases Hh with ⟨Ha0, Ha1, Hv0, Hv1, Hv2, Hv3, Hv4, Hv5, Hc, Hv6, Hv7⟩
  iapply ((K (F := F)).wp_run (D (F := F)) 𝒱 (EH := EH) (P := PP m) κ d 0) $$ [Hst Ha0 Ha1 Hv0 Hv1 Hv2 Hv3 Hv4 Hv5 Hc Hv6 Hv7 Hb Hts Hg Ht]
  isplitr; · iexact Hctx
  isplitl [Hst]; · iexact Hst
  isplitl [Ha1 Hv2 Hv3]
  · rw [st0_eq]
    isplitl [Hv2]; · iexact Hv2
    isplitl [Ha1]; · iexact Ha1
    iexact Hv3
  iintro ⟨Hst, Hdn⟩
  ihave Hdn' := (Entails.of_eq (dn0_eq (fun d => xFlat (predOf m d)) (fun d => tgtOf m d) (fun d => m (oLoc d)) d)) $$ Hdn
  icases Hdn' with ⟨Hv2, Ha1, Hv3⟩
  -- the TensorCore call: the predictions, the targets by block and the result's word
  ihave Hst' := (tcSt_owed (F := F) d) $$ Hst
  icases Hst' with ⟨HO, Hst⟩
  iapply (wp_region m d) $$ [HO Hst Ha0 Ha1 Hv0 Hv1 Hv2 Hv3 Hv4 Hv5 Hc Hv6 Hv7 Hb Hts Hg Ht]
  isplitr [Hb HO Ha0 Hv0 Hv4 Hg Ht]
  rotate_left
  · isplitl [Hb]; · iexact Hb
    isplitl [HO Ha0 Hv0 Hv4]
    · isplitr [HO]
      · isplitl [Ha0]; · iexact Ha0
        isplitl [Hv0]; · iexact Hv0
        iexact Hv4
      · iexact HO
    isplitr; · iexact Hlev
    isplitl [Hg]
    · iapply (Entails.of_eq (bigSep_univ_of_subsingleton (Φ := fun p : Fin 1 => (Pipeline.cellsGhost cfgs EP p d : sProp 𝕄)) (0 : Fin 1))); iexact Hg
    · iapply (Entails.of_eq (bigSep_univ_of_subsingleton (Φ := fun p : Fin 1 => (Pipeline.toksInit cfgs EP p d : sProp 𝕄)) (0 : Fin 1))); iexact Ht
  iintro ⟨Hb, ⟨⟨Ha0, Hv0, Hv4⟩, HO⟩⟩
  ispecialize Hst $$ HO
  -- the two results, summed
  iapply (wp_hlo_within 𝒱 (SparseCore.T d) none Set.univ (op := op5) (S := S11) sub5 (V := V5 m d)) $$ [Hb Ha0 Ha1 Hv0 Hv1 Hv2 Hv3 Hv4 Hv5 Hc Hv6 Hv7]
  · isplitl [Hb]; · iexact Hb
    rw [held_V5]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hc]; · iexact Hc
    isplitl [Hv6]; · iexact Hv6
    iexact Hv7
  iintro ⟨Hb, Hheld⟩
  rw [wp_ret]; imodintro
  iapply (wp_hlo_within 𝒱 (SparseCore.T d) none Set.univ (op := opC) (S := S11) subC (V := (op5 (F := F)).result (V5 m d))) $$ [Hb Hheld]
  · isplitl [Hb] <;> iassumption
  iintro ⟨Hb, Hheld⟩
  rw [wp_ret]; imodintro
  iapply (wp_hlo_within 𝒱 (SparseCore.T d) none Set.univ (op := op6) (S := S11) sub6 (V := (opC (F := F)).result ((op5 (F := F)).result (V5 m d)))) $$ [Hb Hheld]
  · isplitl [Hb] <;> iassumption
  iintro ⟨Hb, Hheld⟩
  rw [wp_ret]; imodintro
  iapply (wp_hlo_within 𝒱 (SparseCore.T d) none Set.univ (op := op7) (S := S11) sub7 (V := (op6 (F := F)).result ((opC (F := F)).result ((op5 (F := F)).result (V5 m d))))) $$ [Hb Hheld]
  · isplitl [Hb] <;> iassumption
  iintro ⟨Hb, Hheld⟩
  rw [wp_ret]; imodintro; imodintro
  isplitl [Hst]; · iexact Hst
  isplitl [Hheld]
  · iapply (held_V9 m d); iexact Hheld
  isplitl [Hb] <;> iassumption

/-! ## The run -/

/-- What the claims read of a core's final state: the arguments as launched, the result. -/
def fq (d : Dev nD) (s' : Phys nD τ sig (Elt F)) : Prop :=
  s'.mem.mem (pLoc d) = m (pLoc d) ∧ s'.mem.mem (tLoc d) = m (tLoc d) ∧ s'.mem.mem (rLoc d) = resultOf (predOf m d) (tgtOf m d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := pLoc d) (I := Finset.univ) (q := fullShare) (f := m (pLoc d)))) $$ [HSI Hx]
  · isplitl [HSI] <;> iassumption
  icases H with ⟨%hx, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := resultOf (predOf m d) (tgtOf m d))) $$ [HSI Hr]
  · isplitl [HSI] <;> iassumption
  icases H with %hr
  ipureintro
  exact ⟨funext fun i => hx i (Finset.mem_univ i), funext fun i => ht i (Finset.mem_univ i), funext fun i => hr i (Finset.mem_univ i)⟩

/-- What every run ends with. -/
def QC : PUnit × MemSt nD τ sig (Elt F) → Prop := fun r =>
  (∀ d : Dev nD, r.2.mem (pLoc d) = m (pLoc d) ∧ r.2.mem (tLoc d) = m (tLoc d) ∧ r.2.mem (rLoc d) = resultOf (predOf m d) (tgtOf m d))
    ∧ r.2.sem = fun _ => 0

/-- Every run of the program ends, with the arguments as launched, the result as stated, every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl _ _ _ scFacts)
    (fun q _ => match q with | 0 => SparseCore.Cfg.VecSplit.of_plain (vecSplit _ _ _))
    m ρ main (fun d => G d) (FIN m) (u₀ (F := F)) (sep_elim_left.trans (hu₀ m)) (hmain m ρ) (fq m) (hfin m) (QC m) (fun _ h hz => ⟨h, hz⟩)

end Cert.Proof.Run

end
-- ==== Proof.Claims.lean ====
/- The frames of the kernel and of the reference, and the four named constants. -/
module

public import proofs.«01_k».proof.Proof.Main
public import proofs.«01_k».proof.Proof.Eqs
public import proofs.«01_k».proof.Proof.Gen.ReferenceIdeal.Run
public import proofs.«01_k».proof.Proof.Gen.Reference.Run

@[expose] public section

set_option maxRecDepth 16384

noncomputable section

namespace Cert.Proof.Run

open Idealize.ShloMosaic Idealize.SL.Sem

/-- The kernel at the machine's floats ends, with its two arguments as they were and all counters at zero. -/
theorem frame_kernel : Cert.quiescent_Kernel := fun m ρ _ => by
  letI := Eqs.namedBits
  rw [Eqs.defs_eq, Eqs.threads_eq]
  exact (θ_run (Cert.KernelIdeal.defs (F := Bits)) _ _).mono
    (fun _ h => ⟨fun c => ⟨(h.1 c).1, (h.1 c).2.1⟩, h.2⟩) (run_main (F := Bits) m ρ)

/-- The idealized kernel ends, with its two arguments as they were and all counters at zero. -/
theorem frame_ideal : Cert.quiescent_KernelIdeal := fun m ρ _ =>
  (θ_run (Cert.KernelIdeal.defs (F := Ideal)) _ _).mono
    (fun _ h => ⟨fun c => ⟨(h.1 c).1, (h.1 c).2.1⟩, h.2⟩) (run_main (F := Ideal) m ρ)

/-- The idealized reference ends, with its two arguments as they were and all counters at zero. -/
theorem frame_reference_ideal : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The reference at the machine's floats ends, with its two arguments as they were and all counters at zero. -/
theorem frame_reference : Cert.quiescent_Reference := fun m ρ _ =>
  (θ_run (Cert.Reference.defs (F := Bits)) _ _).mono
    (fun r h => ⟨fun c => (h c).2, Idealize.ShloMosaic.sem_eq_zero_of_no_sems (by decide) r.2⟩)
    (Cert.Reference.Value.run (F := Bits) m ρ)

/-- Each of the four named constants stands for the real number that the kernel's table gives it. -/
theorem constants_named : Cert.preserves_Kernel_KernelIdeal :=
  ⟨IdealRules.named_const.statement Cert.KernelIdeal.κ "eps" .f32 0x3586386D#32 ((1 / 999980 : ℝ) : EReal) rfl,
    IdealRules.named_const.statement Cert.KernelIdeal.κ "entropy" .f32 0xBFBCF9CF#32
      (((1 / 10) * (Real.log (387420489 / 999980000000000)) : ℝ) : EReal) rfl,
    IdealRules.named_const.statement Cert.KernelIdeal.κ "neg_eps" .f32 0xB586386D#32 ((-1 / 999980 : ℝ) : EReal) rfl,
    IdealRules.named_const.statement Cert.KernelIdeal.κ "conf_less_eps" .f32 0x3F666656#32
      ((899981 / 999980 : ℝ) : EReal) rfl⟩

end Cert.Proof.Run
-- ==== Proof.Rows.lean ====
/- One row of the loss over the reals: the sum over all columns, and its closed form. -/
module

public import Mathlib.Analysis.SpecialFunctions.Log.Basic
public import Mathlib.Algebra.BigOperators.Fin

@[expose] public section

noncomputable section

namespace Cert.Proof.Rows

/-- The smoothed distribution at column `c` of a row whose target is `t`. -/
def dist (t c : ℕ) : ℝ := if t = 0 then 0 else if c = 0 then 0 else if c = t then 9 / 10 else 1 / 999980

/-- One term of the loss: the distribution times the difference of logarithms, a zero weight giving zero. -/
def term (t c : ℕ) (x : ℝ) : ℝ := dist t c * (Real.log (if 0 < dist t c then dist t c else 1) - x)

/-- The constant part of a row that is not left out. -/
def ent : ℝ := (1 / 10) * (Real.log (387420489 / 999980000000000))

/-- What the dense part adds for a row: nothing for a padding row. -/
def dense {N : ℕ} (t : ℕ) (x : Fin N → ℝ) : ℝ :=
  if t ≠ 0 then (-1 / 999980) * (∑ c, x c) - 899981 / 999980 * (∑ c : Fin N, if c.val = t then x c else 0) else 0

/-- The constant part is the entropy of the smoothed distribution, with the sign turned. -/
theorem ent_eq : ent = 9 / 10 * Real.log (9 / 10) + 1 / 10 * Real.log (1 / 999980) := by
  have h : (387420489 / 999980000000000 : ℝ) = (9 / 10) ^ 9 * (1 / 999980) := by norm_num
  unfold ent
  rw [h, Real.log_mul (by norm_num) (by norm_num), Real.log_pow]
  push_cast
  ring

/-- A term of a row whose target is not the padding class, as the common term corrected at column 0 and at the target. -/
theorem term_split (t c : ℕ) (ht : t ≠ 0) (x : ℝ) :
    term t c x = 1 / 999980 * (Real.log (1 / 999980) - x)
      + (if c = 0 then -(1 / 999980 * (Real.log (1 / 999980) - x)) else 0)
      + (if c = t then 9 / 10 * (Real.log (9 / 10) - x) - 1 / 999980 * (Real.log (1 / 999980) - x) else 0) := by
  have h1 : (0 : ℝ) < 9 / 10 := by norm_num
  have h2 : (0 : ℝ) < 1 / 999980 := by norm_num
  unfold term dist
  rw [if_neg ht]
  by_cases hc : c = 0
  · have hn : ¬ c = t := fun e => ht (e.symm.trans hc)
    rw [if_pos hc, if_pos hc, if_neg hn]
    ring
  · rw [if_neg hc, if_neg hc]
    by_cases e : c = t
    · rw [if_pos e, if_pos h1, if_pos e]
      ring
    · rw [if_neg e, if_pos h2, if_neg e]
      ring

/-- Every term of a padding row is zero. -/
theorem term_zero (c : ℕ) (x : ℝ) : term 0 c x = 0 := by
  unfold term dist
  rw [if_pos rfl, zero_mul]

/-- A row's loss is its dense part plus, for a row that is not padding, column 0's share and the constant. -/
theorem row_eq {N : ℕ} (hN : N = 100000) (t : ℕ) (ht : t < N) (h0 : 0 < N) (x : Fin N → ℝ) :
    (∑ c : Fin N, term t c.val (x c)) = dense t x + (if t ≠ 0 then 1 / 999980 * x ⟨0, h0⟩ + ent else 0) := by
  by_cases h : t = 0
  · subst h
    unfold dense
    rw [if_neg (by simp), if_neg (by simp), Finset.sum_eq_zero fun c _ => term_zero c.val (x c)]
    ring
  · have hs : ∀ (k : ℕ) (hk : k < N) (f : Fin N → ℝ), (∑ c : Fin N, if c.val = k then f c else 0) = f ⟨k, hk⟩ := by
      intro k hk f
      rw [Finset.sum_eq_single (⟨k, hk⟩ : Fin N) (fun b _ hb => if_neg fun e => hb (Fin.ext e))
        (fun hn => absurd (Finset.mem_univ _) hn)]
      exact if_pos rfl
    have hc : (∑ _c : Fin N, Real.log (1 / 999980)) = 100000 * Real.log (1 / 999980) := by
      rw [Finset.sum_const, Finset.card_univ, Fintype.card_fin, nsmul_eq_mul, hN]
      norm_num
    unfold dense
    rw [if_pos h, if_pos h, Finset.sum_congr rfl fun c _ => term_split t c.val h (x c), Finset.sum_add_distrib,
      Finset.sum_add_distrib, hs 0 h0, hs t ht, hs t ht, ← Finset.mul_sum, Finset.sum_sub_distrib, hc, ent_eq]
    ring

end Cert.Proof.Rows
-- ==== Proof.RefValue.lean ====
/- The reference's result over the extended reals, as a sum of real terms over rows and columns. -/
module

public import proofs.«01_k».proof.Proof.Rows
public import proofs.«01_k».proof.Proof.Gen.ReferenceIdeal.Run
public import Idealize.ShloMosaic.Lib.Routing.OpsOne
public import Idealize.ShloMosaic.Lib.IdealHost
public import Idealize.ShloMosaic.PureOps.Ideal.Laws
public import Idealize.ShloMosaic.Lib.Pipeline.Value
public import Idealize.ShloMosaic.Lib.StableHlo.Predicate

@[expose] public section

set_option maxRecDepth 16384

noncomputable section

namespace Cert.Proof.RefValue

open Idealize.ShloMosaic Idealize.ShloMosaic.ValueIdx Cert.ReferenceIdeal
open Cert.ReferenceIdeal.Facts₀

/-- A finite sum of reals, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Where the updates land -/

/-- An update of `N` scalars into a matrix, two index words each, lands at the entry that its words, read signed, name. -/
theorem lands_pairs {R C N w : ℕ} (d : ScatterDims ⟨2, ![R, C]⟩ ⟨2, ![N, 2]⟩ ⟨1, ![N]⟩) (hiw : d.insertedWindowDims = [0, 1])
    (hsd : d.scatterDimsToOperandDims = [0, 1]) (hivd : d.indexVectorDim = 1) (idx : IVec ⟨2, ![N, 2]⟩ w)
    (k : Fin N) (r : Fin R) (c : Fin C) :
    d.resultIdx? (ix1 k) idx = some (ix2 r c) ↔ (idx (ix2 k 0)).toInt = r.val ∧ (idx (ix2 k 1)).toInt = c.val := by
  have hm : ∀ q : Fin 2, q ∈ d.scatterDimsToOperandDims := fun q => by rw [hsd]; fin_cases q <;> simp
  have hwin : ∀ q : Fin 2, d.window (ix1 k) q = 0 := fun q => by
    unfold ScatterDims.window
    rw [dif_neg fun h => (of_decide_eq_true (List.mem_filter.1 h).2) (by rw [hiw]; fin_cases q <;> simp)]
  have hsi : ∀ q : Fin 2, d.siIdx (ix1 k) ⟨d.scatterDimsToOperandDims.idxOf q, List.idxOf_lt_length_iff.2 (hm q)⟩ = ix2 k q := fun q => by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      exact congrArg (fun t => ((ix1 k : (⟨1, ![N]⟩ : Shape).Idx) t).val) (Subsingleton.elim (α := Fin 1) _ 0)
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 k) idx q = (idx (ix2 k q)).toInt := fun q => by
    unfold ScatterDims.start
    rw [dif_pos (hm q), hsi]
  rw [Routing.resultIdx?_ix2, hstart, hstart, hwin, hwin]
  omega

/-! ## The distribution -/

variable (Tg : IVec S2048 32)

/-- The pairs of index words: a row's number, and its target. -/
def pairs : IVec S2048x2 32 :=
  concatenate S2048x2 1
    [⟨S2048x1, broadcastInDim S2048x1 ![0] bcast_S2048_S2048x1_0
      (select (cmpi .slt (iotaInDim S2048 32 0) (broadcastInDim S2048 ![] bcast_S_S2048 (constantI S_ 32 0#32)))
        (addi (iotaInDim S2048 32 0) (broadcastInDim S2048 ![] bcast_S_S2048 (constantI S_ 32 2048#32))) (iotaInDim S2048 32 0))⟩,
      ⟨S2048x1, broadcastInDim S2048x1 ![0] bcast_S2048_S2048x1_0
        (select (cmpi .slt Tg (broadcastInDim S2048 ![] bcast_S_S2048 (constantI S_ 32 0#32)))
          (addi Tg (broadcastInDim S2048 ![] bcast_S_S2048 (constantI S_ 32 100000#32))) Tg)⟩]
    concatenates_S2048x1_S2048x1_S2048x2_d1

/-- One tenth, as the reference computes it. -/
def tenth : FVec Ideal S_ .f32 := Host.divf (constant S_ .f32 0x3F800000#32) (constant S_ .f32 0x41200000#32)

/-- The distribution once the targets' weights are set. -/
def filled : FVec Ideal S2048x100000 .f32 :=
  Host.scatter scatter_S2048x100000_S2048x2_S2048_n_01_01_1 (fun _ b => b)
    (broadcastInDim S2048x100000 ![] bcast_S_S2048x100000 (Host.divf tenth (constant S_ .f32 0x47C34F00#32)))
    (pairs Tg) (broadcastInDim S2048 ![] bcast_S_S2048 (subf (constant S_ .f32 0x3F800000#32) tenth))

/-- The distribution once column 0 is cleared. -/
def cleared : FVec Ideal S2048x100000 .f32 :=
  Host.scatter scatter_S2048x100000_S1_S2048_0_1_1_0 (fun _ b => b) (filled Tg)
    (broadcastInDim S1 ![] bcast_S_S1 (constantI S_ 32 0#32)) (broadcastInDim S2048 ![] bcast_S_S2048 (constant S_ .f32 0x00000000#32))

/-- The distribution: zero in a padding row. -/
def distV : FVec Ideal S2048x100000 .f32 :=
  select (broadcastInDim S2048x100000 ![0, 1] bcast_S2048x1_S2048x100000_0_1 (broadcastInDim S2048x1 ![0] bcast_S2048_S2048x1_0
      (cmpi .eq Tg (broadcastInDim S2048 ![] bcast_S_S2048 (constantI S_ 32 0#32)))))
    (broadcastInDim S2048x100000 ![] bcast_S_S2048x100000 (id (constant S_ .f32 0x00000000#32))) (cleared Tg)

/-- The loss. -/
def lossV (X : FVec Ideal S2048x100000 .f32) : FVec Ideal S_ .f32 :=
  Host.reduceAdd (mulf (distV Tg) (subf (Host.log (select (cmpf .ogt (distV Tg)
      (broadcastInDim S2048x100000 ![] bcast_S_S2048x100000 (constant S_ .f32 0x00000000#32))) (distV Tg)
      (broadcastInDim S2048x100000 ![] bcast_S_S2048x100000 (id (constant S_ .f32 0x3F800000#32))))) X))
    (constant S_ .f32 0x00000000#32) reducesTo_S2048x100000_S_d0_1 h_S_

/-- What the reference's run leaves is that loss of its two arguments. -/
theorem res_eq (m : (ℓ : Loc nD τ sig) → Buf (Elt Ideal) ℓ) (c : Dev nD) :
    Value.res_main_v33 m c = lossV (m ((c.tc : Thread nD τ).loc main_arg1)) (m ((c.tc : Thread nD τ).loc main_arg0)) := rfl

/-- A vector down a column, at a row. -/
theorem column_apply {α : Type} (v : S2048.Idx → α) (r : Fin 2048) (z : Fin 1) :
    broadcastInDim S2048x1 ![0] bcast_S2048_S2048x1_0 v (ix2 r z) = v (ix1 r) :=
  broadcastInDim_apply ![0] _ v _ _ fun a => by
    match a with
    | ⟨0, _⟩ => rfl

/-- The first word of a pair is the row's number. -/
theorem pairs_row (r : Fin 2048) : ((pairs Tg) (ix2 r 0)).toInt = r.val := by
  have hr := r.isLt
  unfold pairs
  refine (congrArg BitVec.toInt ((concatenate_pair_apply_left (s₁ := S2048x1) (s₂ := S2048x1) (t := S2048x2) 1 _ _ _
    (ix2 r (0 : Fin 2)) rfl (ix2 r (0 : Fin 1)) (fun b => by
      match b with
      | ⟨0, _⟩ => rfl
      | ⟨1, _⟩ => rfl)).trans (column_apply _ r 0))).trans ?_
  show (Scalar.select (IntOp.cmpi .slt (BitVec.ofNat 32 r.val) 0#32) _ (BitVec.ofNat 32 r.val)).toInt = r.val
  rw [Routing.wrap_of_lt _ _ (by rw [BitVec.toNat_ofNat]; omega), StableHlo.Predicate.toInt_ofNat_small _ (by omega)]

/-- The second word of a pair is the row's target, where that is a column. -/
theorem pairs_col (r : Fin 2048) (ht : (Tg (ix1 r)).toNat < 100000) : ((pairs Tg) (ix2 r 1)).toInt = (Tg (ix1 r)).toNat := by
  unfold pairs
  refine (congrArg BitVec.toInt ((concatenate_pair_apply_right (s₁ := S2048x1) (s₂ := S2048x1) (t := S2048x2) 1 _ _ _
    (ix2 r (1 : Fin 2)) rfl rfl (ix2 r (0 : Fin 1)) (fun b hb => by
      match b, hb with
      | ⟨0, _⟩, _ => rfl
      | ⟨1, _⟩, hb => exact absurd rfl hb) rfl).trans (column_apply _ r 0))).trans ?_
  show (Scalar.select (IntOp.cmpi .slt (Tg (ix1 r)) 0#32) _ (Tg (ix1 r))).toInt = (Tg (ix1 r)).toNat
  rw [Routing.wrap_of_lt _ _ (by omega), BitVec.toInt_eq_toNat_of_lt (by omega)]

/-- The word of the float ten. -/
theorem ofBits_ten : Ideal.ofBits .f32 0x41200000#32 = ((10 : ℝ) : EReal) := by
  simp [Ideal.ofBits, Ideal.ieee, -EReal.coe_mul]; norm_num

/-- The word of the float 99998. -/
theorem ofBits_rest : Ideal.ofBits .f32 0x47C34F00#32 = ((99998 : ℝ) : EReal) := by
  simp [Ideal.ofBits, Ideal.ieee, -EReal.coe_mul]; norm_num

/-- The quotient is one tenth. -/
theorem tenth_apply (i : S_.Idx) : tenth i = ((1 / 10 : ℝ) : EReal) := by
  show Ideal.div (Ideal.ofBits .f32 0x3F800000#32) (Ideal.ofBits .f32 0x41200000#32) = _
  rw [ofBits_ten, Ideal.ofBits_one_f32, Ideal.div_coe (by norm_num), one_mul]

/-- The small weight is one over 999980. -/
theorem small_apply (i : S_.Idx) : Host.divf tenth (constant S_ .f32 0x47C34F00#32) i = ((1 / 999980 : ℝ) : EReal) := by
  show Ideal.div (tenth i) (Ideal.ofBits .f32 0x47C34F00#32) = _
  rw [ofBits_rest, tenth_apply, Ideal.div_coe (by norm_num), ← EReal.coe_mul]
  norm_num

/-- The large weight is nine tenths. -/
theorem large_apply (i : S_.Idx) : subf (constant S_ .f32 0x3F800000#32) tenth i = ((9 / 10 : ℝ) : EReal) := by
  show Ideal.ofBits .f32 0x3F800000#32 - tenth i = _
  rw [Ideal.ofBits_one_f32, tenth_apply, ← EReal.coe_one, ← EReal.coe_sub]
  norm_num

/-- The distribution once the targets' weights are set, at an entry. -/
theorem filled_apply (hT : ∀ r : Fin 2048, (Tg (ix1 r)).toNat < 100000) (r : Fin 2048) (c : Fin 100000) :
    filled Tg (ix2 r c) = ((if c.val = (Tg (ix1 r)).toNat then 9 / 10 else 1 / 999980 : ℝ) : EReal) := by
  have lands : ∀ j : S2048.Idx, scatter_S2048x100000_S2048x2_S2048_n_01_01_1.resultIdx? j (pairs Tg) = some (ix2 r c) →
      j 0 = r ∧ c.val = (Tg (ix1 r)).toNat := fun j hj => by
    have h := (lands_pairs _ rfl rfl rfl (pairs Tg) (j 0) r c).1
      ((congrArg (fun t => ScatterDims.resultIdx? _ t (pairs Tg)) (eq_ix1 j).symm).trans hj)
    have h0 : j 0 = r := Fin.ext (Int.ofNat.inj ((pairs_row Tg (j 0)).symm.trans h.1))
    refine ⟨h0, ?_⟩
    have h1 := h.2
    rw [h0, pairs_col Tg r (hT r)] at h1
    omega
  by_cases h : c.val = (Tg (ix1 r)).toNat
  · rw [if_pos h]
    exact (Routing.scatter_set_hit _ _ (pairs Tg) _ (ix2 r c) ((9 / 10 : ℝ) : EReal)
      (fun j _ => (broadcastInDim_scalar_apply _ _ _).trans (large_apply _)) (ix1 r)
      ((lands_pairs _ rfl rfl rfl (pairs Tg) r r c).2 ⟨pairs_row Tg r, by rw [pairs_col Tg r (hT r)]; omega⟩))
  · rw [if_neg h]
    exact (Routing.scatter_set_miss _ _ (pairs Tg) _ (ix2 r c) fun j hj => h (lands j hj).2).trans
      ((broadcastInDim_scalar_apply _ _ _).trans (small_apply _))

/-- The distribution once column 0 is cleared, at an entry. -/
theorem cleared_apply (r : Fin 2048) (c : Fin 100000) :
    cleared Tg (ix2 r c) = if c.val = 0 then 0 else filled Tg (ix2 r c) := by
  have hidx : ((broadcastInDim S1 ![] bcast_S_S1 (constantI S_ 32 0#32) : IVec S1 32) (ix1 0)).toInt = ((0 : ℕ) : ℤ) := rfl
  have land := fun w' : Fin 2048 => Routing.lands_col scatter_S2048x100000_S1_S2048_0_1_1_0 rfl rfl
    (broadcastInDim S1 ![] bcast_S_S1 (constantI S_ 32 0#32)) (⟨0, by omega⟩ : Fin 100000) hidx w' r c
  by_cases h : c.val = 0
  · rw [if_pos h]
    exact Routing.scatter_set_hit _ _ _ _ (ix2 r c) 0
      (fun j _ => (broadcastInDim_scalar_apply _ _ _).trans Ideal.ofBits_zero_f32) (ix1 r) ((land r).2 ⟨rfl, Fin.ext h⟩)
  · rw [if_neg h]
    exact Routing.scatter_set_miss _ _ _ _ (ix2 r c) fun j hj => h (congrArg Fin.val
      ((land (j 0)).1 ((congrArg (fun t => ScatterDims.resultIdx? _ t _) (eq_ix1 j).symm).trans hj)).2)

/-- The distribution at an entry. -/
theorem distV_apply (hT : ∀ r : Fin 2048, (Tg (ix1 r)).toNat < 100000) (r : Fin 2048) (c : Fin 100000) :
    distV Tg (ix2 r c) = ((Rows.dist (Tg (ix1 r)).toNat c.val : ℝ) : EReal) := by
  have hc : broadcastInDim S2048x100000 ![0, 1] bcast_S2048x1_S2048x100000_0_1 (broadcastInDim S2048x1 ![0] bcast_S2048_S2048x1_0
      (cmpi .eq Tg (broadcastInDim S2048 ![] bcast_S_S2048 (constantI S_ 32 0#32)))) (ix2 r c)
      = BitVec.ofBool (decide ((Tg (ix1 r)).toNat = 0)) := by
    rw [broadcastInDim_apply ![0, 1] _ _ _ (ix2 r (0 : Fin 1)) (fun a => by
      match a with
      | ⟨0, _⟩ => rfl
      | ⟨1, _⟩ => rfl), column_apply]
    exact WordCmp.cmpi_eq_eq_toNat _ _
  show Scalar.select _ _ _ = _
  rw [hc, WordCmp.select_decide, cleared_apply, filled_apply Tg hT]
  unfold Rows.dist
  by_cases h0 : (Tg (ix1 r)).toNat = 0
  · rw [if_pos h0, if_pos h0]
    exact (broadcastInDim_scalar_apply _ _ _).trans Ideal.ofBits_zero_f32
  · rw [if_neg h0, if_neg h0]
    by_cases h1 : c.val = 0
    · rw [if_pos h1, if_pos h1]; rfl
    · rw [if_neg h1, if_neg h1]

/-- The loss of finite log-probabilities and targets that name columns: the sum of the real terms. -/
theorem lossV_eq (hT : ∀ r : Fin 2048, (Tg (ix1 r)).toNat < 100000) (X : FVec Ideal S2048x100000 .f32)
    (x : Fin 2048 → Fin 100000 → ℝ) (hX : ∀ r c, X (ix2 r c) = ((x r c : ℝ) : EReal)) (j : S_.Idx) :
    lossV Tg X j = ((∑ r : Fin 2048, ∑ c : Fin 100000, Rows.term (Tg (ix1 r)).toNat c.val (x r c) : ℝ) : EReal) := by
  have hterm : ∀ (r : Fin 2048) (c : Fin 100000), (mulf (distV Tg) (subf (Host.log (select (cmpf .ogt (distV Tg)
      (broadcastInDim S2048x100000 ![] bcast_S_S2048x100000 (constant S_ .f32 0x00000000#32))) (distV Tg)
      (broadcastInDim S2048x100000 ![] bcast_S_S2048x100000 (id (constant S_ .f32 0x3F800000#32))))) X)) (ix2 r c)
      = ((Rows.term (Tg (ix1 r)).toNat c.val (x r c) : ℝ) : EReal) := by
    intro r c
    show distV Tg (ix2 r c) * (Ideal.log (Scalar.select (BitVec.ofBool (decide (Ideal.ofBits .f32 0x00000000#32 < distV Tg (ix2 r c))))
      (distV Tg (ix2 r c)) (Ideal.ofBits .f32 0x3F800000#32)) - X (ix2 r c)) = _
    rw [WordCmp.select_decide, hX, distV_apply Tg hT, Ideal.ofBits_zero_f32, Ideal.ofBits_one_f32]
    unfold Rows.term
    generalize Rows.dist (Tg (ix1 r)).toNat c.val = d
    by_cases h : 0 < d
    · rw [if_pos (EReal.coe_pos.2 h), if_pos h, Ideal.log_coe, if_neg (not_le.2 h), ← EReal.coe_sub, ← EReal.coe_mul]
    · rw [if_neg (fun q => h (EReal.coe_pos.1 q)), if_neg h, ← EReal.coe_one, Ideal.log_coe, if_neg (by norm_num),
        ← EReal.coe_sub, ← EReal.coe_mul]
  unfold lossV
  rw [hostReduceAdd_apply, Ideal.hostReduceAdd_total _ (fun b => b.elim0), sum_idx2]
  rw [Finset.sum_congr rfl fun r _ => Finset.sum_congr rfl fun c _ => hterm r c]
  rw [Finset.sum_congr rfl fun r _ => (coe_sum _ _).symm, ← coe_sum]
  show Ideal.ofBits .f32 0x00000000#32 + _ = _
  rw [Ideal.ofBits_zero_f32, zero_add]

end Cert.Proof.RefValue
-- ==== Proof.KerValue.lean ====
/- The kernel's result over the extended reals, as a sum of real terms over rows. -/
module

public import proofs.«01_k».proof.Proof.Rows
public import proofs.«01_k».proof.Proof.RefValue
public import proofs.«01_k».proof.Proof.Main
public import Idealize.ShloMosaic.Lib.IdealHost
public import Idealize.ShloMosaic.Lib.WordCmp
public import Idealize.ShloMosaic.Lib.ValueLayout
public import Idealize.ShloMosaic.Lib.ValueLayoutCasts
public import Idealize.ShloMosaic.PureOps.Ideal.Laws

@[expose] public section

set_option maxRecDepth 16384

noncomputable section

namespace Cert.Proof.KerValue

open Idealize.ShloMosaic Cert.KernelIdeal Cert.KernelIdeal.Gen Cert.Proof.Run
open Cert.Proof.RefValue (coe_sum)

/-! ## Sums of reals, regrouped -/

/-- A sum over `m · n` numbers, group by group of `n`. -/
theorem sum_split (m n : ℕ) (f : ℕ → ℝ) :
    ∑ k ∈ Finset.range (m * n), f k = ∑ a ∈ Finset.range m, ∑ b ∈ Finset.range n, f (n * a + b) := by
  induction m with
  | zero => simp
  | succ m ih => rw [Nat.succ_mul, Finset.sum_range_add, ih, Finset.sum_range_succ, Nat.mul_comm m n]

/-- A sum over an index type is the sum over the numbers below its extent. -/
theorem sum_fin (n : ℕ) (hn : 0 < n) (f : Fin n → ℝ) :
    ∑ k : Fin n, f k = ∑ k ∈ Finset.range n, f ⟨k % n, Nat.mod_lt _ hn⟩ := by
  rw [Finset.sum_range]
  exact Finset.sum_congr rfl fun k _ => congrArg f (Fin.ext (Nat.mod_eq_of_lt k.isLt).symm)

/-! ## The named constants -/

/-- The small weight. -/
theorem named_eps : (Named.named (F := Ideal) (φ := .f32) κ "eps" 0x3586386D#32 : EReal) = ((1 / 999980 : ℝ) : EReal) := rfl
/-- The small weight, negated. -/
theorem named_neg_eps : (Named.named (F := Ideal) (φ := .f32) κ "neg_eps" 0xB586386D#32 : EReal) = ((-1 / 999980 : ℝ) : EReal) := rfl
/-- The large weight less the small one. -/
theorem named_conf : (Named.named (F := Ideal) (φ := .f32) κ "conf_less_eps" 0x3F666656#32 : EReal) = ((899981 / 999980 : ℝ) : EReal) := rfl
/-- A row's sum of weights times logarithms of weights. -/
theorem named_ent : (Named.named (F := Ideal) (φ := .f32) κ "entropy" 0xBFBCF9CF#32 : EReal) = ((Rows.ent : ℝ) : EReal) := rfl

/-! ## The dense half -/

/-- A block's row sums. -/
def rowSums (v0 : FVec Ideal S16x100000 .f32) : FVec Ideal S16 .f32 :=
  multiReduction .add [1] S16 v0 0x00000000#32 reduces_S16x100000_S16 (.inl rfl) rfl

/-- A block's words at the rows' targets, zero elsewhere. -/
def picked (v0 : FVec Ideal S16x100000 .f32) (v1 : IVec S1x1x16 32) : FVec Ideal S16x100000 .f32 :=
  select (cmpi .eq (iota .tc S16x100000 32 [1] iota_S16x100000_d1_w32)
    (broadcastTo S16x100000 (shapeCast S16x1 (shapeCast S16 v1 shapeCasts_S1x1x16_S16) shapeCasts_S16_S16x1) broadcasts_S16x1_S16x100000))
    v0 (broadcast S16x100000 (Scalar.ofBits .f32 0x00000000#32))

/-- A block's losses, row by row. -/
def rowLoss (v0 : FVec Ideal S16x100000 .f32) (v1 : IVec S1x1x16 32) : FVec Ideal S16 .f32 :=
  select (cmpi .ne (shapeCast S16 v1 shapeCasts_S1x1x16_S16) (broadcast S16 0#32))
    (subf (mulf (broadcast S16 (Named.named κ "neg_eps" 0xB586386D#32)) (rowSums v0))
      (mulf (broadcast S16 (Named.named κ "conf_less_eps" 0x3F666656#32)) (rowSums (picked v0 v1))))
    (broadcast S16 (Scalar.ofBits .f32 0x00000000#32))

/-- A row sum is the sum of the row. -/
theorem rowSums_apply (v0 : FVec Ideal S16x100000 .f32) (i : Fin 16) :
    rowSums v0 (ValueIdx.ix1 i) = ∑ c : Fin 100000, v0 (ValueIdx.ix2 i c) :=
  (Ideal.multiReduction_add_single v0 _ reduces_S16x100000_S16 _ _ _).trans
    (Finset.sum_congr rfl fun c _ => congrArg v0 (funext fun a => by
      match a with
      | ⟨0, _⟩ => rfl
      | ⟨1, _⟩ => rfl))

/-- A block's targets as a vector. -/
theorem targets_apply (v1 : IVec S1x1x16 32) (i : Fin 16) :
    shapeCast S16 v1 shapeCasts_S1x1x16_S16 (ValueIdx.ix1 i) = v1 (ValueIdx.ix3 0 0 i) :=
  shapeCast_apply v1 _ _ _ (by rw [Shape.rowMajor_val_three, Shape.rowMajor_val_one]; simp [ValueIdx.ix1, ValueIdx.ix3])

/-- The word at a row's target, zero elsewhere. -/
theorem picked_apply (v0 : FVec Ideal S16x100000 .f32) (v1 : IVec S1x1x16 32) (i : Fin 16) (c : Fin 100000) :
    picked v0 v1 (ValueIdx.ix2 i c) = if c.val = (v1 (ValueIdx.ix3 0 0 i)).toNat then v0 (ValueIdx.ix2 i c) else 0 := by
  have hc := c.isLt
  have hb : broadcastTo S16x100000 (shapeCast S16x1 (shapeCast S16 v1 shapeCasts_S1x1x16_S16) shapeCasts_S16_S16x1)
      broadcasts_S16x1_S16x100000 (ValueIdx.ix2 i c) = v1 (ValueIdx.ix3 0 0 i) :=
    (broadcastTo_apply _ _ _ (ValueIdx.ix2 i (0 : Fin 1)) (fun a => by
      match a with
      | ⟨0, _⟩ => rfl
      | ⟨1, _⟩ => rfl)).trans ((ValueIdx.shapeCast_a_a1_apply _ _ _ _).trans (targets_apply v1 i))
  show Scalar.select (IntOp.cmpi .eq (iota .tc S16x100000 32 [1] iota_S16x100000_d1_w32 (ValueIdx.ix2 i c)) (broadcastTo S16x100000
    (shapeCast S16x1 (shapeCast S16 v1 shapeCasts_S1x1x16_S16) shapeCasts_S16_S16x1) broadcasts_S16x1_S16x100000 (ValueIdx.ix2 i c)))
    (v0 (ValueIdx.ix2 i c)) (Ideal.ofBits .f32 0x00000000#32) = _
  rw [hb, iota_single_apply, show (ValueIdx.ix2 i c : S16x100000.Idx) 1 = c from rfl, WordCmp.cmpi_eq_eq_toNat, WordCmp.select_decide, Ideal.ofBits_zero_f32, BitVec.toNat_ofNat, Nat.mod_eq_of_lt (by omega)]

/-- A row's loss in the reals. -/
theorem rowLoss_apply (v0 : FVec Ideal S16x100000 .f32) (v1 : IVec S1x1x16 32) (x : Fin 16 → Fin 100000 → ℝ)
    (hx : ∀ i c, v0 (ValueIdx.ix2 i c) = ((x i c : ℝ) : EReal)) (i : Fin 16) :
    rowLoss v0 v1 (ValueIdx.ix1 i) = ((Rows.dense (v1 (ValueIdx.ix3 0 0 i)).toNat (x i) : ℝ) : EReal) := by
  have h1 : rowSums v0 (ValueIdx.ix1 i) = ((∑ c, x i c : ℝ) : EReal) := by
    rw [rowSums_apply, coe_sum]
    exact Finset.sum_congr rfl fun c _ => hx i c
  have h2 : rowSums (picked v0 v1) (ValueIdx.ix1 i)
      = ((∑ c : Fin 100000, if c.val = (v1 (ValueIdx.ix3 0 0 i)).toNat then x i c else 0 : ℝ) : EReal) := by
    rw [rowSums_apply, coe_sum]
    refine Finset.sum_congr rfl fun c _ => ?_
    rw [picked_apply, hx]
    split
    · rfl
    · exact EReal.coe_zero.symm
  show Scalar.select (IntOp.cmpi .ne (shapeCast S16 v1 shapeCasts_S1x1x16_S16 (ValueIdx.ix1 i)) 0#32)
    ((Named.named (F := Ideal) (φ := .f32) κ "neg_eps" 0xB586386D#32 : EReal) * rowSums v0 (ValueIdx.ix1 i)
      - (Named.named (F := Ideal) (φ := .f32) κ "conf_less_eps" 0x3F666656#32 : EReal) * rowSums (picked v0 v1) (ValueIdx.ix1 i))
    (Ideal.ofBits .f32 0x00000000#32) = _
  rw [targets_apply, WordCmp.cmpi_ne_eq_toNat, WordCmp.select_decide, h1, h2, named_neg_eps, named_conf, Ideal.ofBits_zero_f32,
    ← EReal.coe_mul, ← EReal.coe_mul, ← EReal.coe_sub]
  unfold Rows.dense
  show (if (v1 (ValueIdx.ix3 0 0 i)).toNat ≠ 0 then _ else _) = _
  split
  · rfl
  · exact EReal.coe_zero.symm

/-- What a block adds to the running sum. -/
theorem block_eq (v0 : FVec Ideal S16x100000 .f32) (v1 : IVec S1x1x16 32) (acc : EReal) :
    k1_pay1 (F := Ideal) v0 v1 acc = acc + ∑ i : Fin 16, rowLoss v0 v1 (ValueIdx.ix1 i) := by
  have h : k1_pay1 (F := Ideal) v0 v1 acc = acc + extractAt ![0, 0] (shapeCast S1x1 (multiReduction .add [1] S1
      (shapeCast S1x16 (rowLoss v0 v1) shapeCasts_S16_S1x16) 0x00000000#32 reduces_S1x16_S1 (.inl rfl) rfl) shapeCasts_S1_S1x1)
      inpos_S1x1_p0_0 := rfl
  rw [h]
  refine congrArg (acc + ·) ?_
  refine (shapeCast_apply _ _ _ (ValueIdx.ix1 (0 : Fin 1)) rfl).trans ?_
  refine (Ideal.multiReduction_add_single _ _ reduces_S1x16_S1 _ _ _).trans (Finset.sum_congr rfl fun i _ => ?_)
  refine shapeCast_apply _ _ _ (ValueIdx.ix1 i) ?_
  rw [Shape.rowMajor_val_one, Shape.rowMajor_val_two]
  show i.val = 0 * 16 + i.val
  omega

variable (X : FVec Ideal S2048x100000 .f32) (Tg : IVec S2048 32) (x : Fin 2048 → Fin 100000 → ℝ)

/-- Target number `k`. -/
abbrev tn (k : ℕ) : ℕ := (Tg (ValueIdx.ix1 ⟨k % 2048, Nat.mod_lt _ (by decide)⟩)).toNat
/-- Row number `k`. -/
abbrev xn (k : ℕ) : Fin 100000 → ℝ := x ⟨k % 2048, Nat.mod_lt _ (by decide)⟩

/-- A block's targets are the rows' targets. -/
theorem tBlk_apply (n : ℕ) (i : Fin 16) : (tBlk (F := Ideal) (tBlocks (F := Ideal) Tg) n (ValueIdx.ix3 0 0 i)).toNat = tn Tg (16 * n + i.val) := by
  have hi := i.isLt
  refine congrArg BitVec.toNat (shapeCast_apply _ _ _ _ ?_)
  rw [Shape.rowMajor_val_one, Shape.rowMajor_val_three]
  show (16 * n + i.val) % 2048 = (n % 128 * 1 + 0) * 16 + i.val
  omega

/-- The running sum after block `n`, in the reals. -/
theorem accVal_eq (hX : ∀ r c, X (ValueIdx.ix2 r c) = ((x r c : ℝ) : EReal)) (n : ℕ) :
    (accVal (F := Ideal) X (tBlocks (F := Ideal) Tg) n : EReal)
      = ((∑ a ∈ Finset.range (n + 1), ∑ b ∈ Finset.range 16, Rows.dense (tn Tg (16 * a + b)) (xn x (16 * a + b)) : ℝ) : EReal) := by
  have hb : ∀ n, (∑ i : Fin 16, rowLoss (xBlk (F := Ideal) X n) (tBlk (F := Ideal) (tBlocks (F := Ideal) Tg) n) (ValueIdx.ix1 i))
      = ((∑ b ∈ Finset.range 16, Rows.dense (tn Tg (16 * n + b)) (xn x (16 * n + b)) : ℝ) : EReal) := by
    intro n
    rw [Finset.sum_range, coe_sum]
    refine Finset.sum_congr rfl fun i _ => ?_
    rw [rowLoss_apply _ _ (fun i => xn x (16 * n + i.val)) (fun i c => hX _ _), tBlk_apply]
  induction n with
  | zero =>
    rw [Finset.sum_range_succ, Finset.sum_range_zero, zero_add, ← hb]
    refine (block_eq _ _ _).trans ?_
    show Ideal.ofBits .f32 0x00000000#32 + _ = _
    rw [Ideal.ofBits_zero_f32, zero_add]
  | succ n ih =>
    rw [Finset.sum_range_succ, EReal.coe_add, ← ih, ← hb]
    exact block_eq _ _ _

/-! ## The sparse half -/

/-- The flattened first columns, at the start of a row. -/
theorem xFlat_apply (k : ℕ) (q : Fin 262144) (hq : q.val = 128 * k) :
    xFlat (F := Ideal) X (ValueIdx.ix1 q) = X (ValueIdx.ix2 ⟨k % 2048, Nat.mod_lt _ (by decide)⟩ ⟨0, by decide⟩) := by
  have hl := q.isLt
  refine (shapeCast_apply _ _ _ (ValueIdx.ix2 (⟨k % 2048, Nat.mod_lt _ (by decide)⟩ : Fin 2048) (0 : Fin 128)) ?_).trans
    (extractStridedSlice_apply _ _ _ _ _ fun a => ?_)
  · rw [Shape.rowMajor_val_one, Shape.rowMajor_val_two]
    show k % 2048 * 128 + 0 = q.val
    omega
  · match a with
    | ⟨0, _⟩ => exact (Nat.zero_add _).symm
    | ⟨1, _⟩ => rfl

/-- One row's lanes. -/
theorem laneAdd_apply (t : BitVec 32) (v acc : FVec Ideal S16 .f32) (l : Fin 16) (y : ℝ)
    (hv : v (ValueIdx.ix1 (0 : Fin 16)) = ((y : ℝ) : EReal)) :
    laneAdd (F := Ideal) t v acc (ValueIdx.ix1 l)
      = acc (ValueIdx.ix1 l) + ((if l.val = 0 then (if t.toNat ≠ 0 then y else 0) else 0 : ℝ) : EReal) := by
  have hl := l.isLt
  have hi : iota .scVector S16 32 [0] iota_S16_d0_w32_scVector (ValueIdx.ix1 l) = BitVec.ofNat 32 l.val :=
    iota_single_apply _ _ _ _ _ _
  show acc (ValueIdx.ix1 l) + Scalar.select (IntOp.cmpi .eq (iota .scVector S16 32 [0] iota_S16_d0_w32_scVector (ValueIdx.ix1 l))
    (Scalar.select (IntOp.cmpi .ne t 0#32) 0#32 4294967295#32)) (v (ValueIdx.ix1 l)) (Ideal.ofBits .f32 0x00000000#32) = _
  rw [hi, WordCmp.cmpi_eq_eq_toNat, WordCmp.select_decide, WordCmp.cmpi_ne_eq_toNat, WordCmp.select_decide, BitVec.toNat_ofNat,
    Nat.mod_eq_of_lt (by omega), Ideal.ofBits_zero_f32]
  refine congrArg (acc (ValueIdx.ix1 l) + ·) ?_
  by_cases ht : t.toNat = 0
  · rw [if_neg (by rw [if_neg (by simpa using ht)]; show ¬ l.val = 4294967295; omega), if_neg (not_not.2 ht), ite_self, EReal.coe_zero]
  · rw [if_pos (show t.toNat ≠ (0#32 : BitVec 32).toNat from ht), if_pos (show t.toNat ≠ 0 from ht)]
    by_cases h0 : l.val = 0
    · rw [if_pos (show l.val = (0#32 : BitVec 32).toNat from h0), if_pos h0, show l = 0 from Fin.ext h0, hv]
    · rw [if_neg (show ¬ l.val = (0#32 : BitVec 32).toNat from h0), if_neg h0, EReal.coe_zero]

/-- The rows' lanes added up. -/
theorem laneSum_apply (v : ℕ → FVec Ideal S16 .f32) (t : ℕ → BitVec 32) (l : Fin 16) (y : ℕ → ℝ) (n : ℕ)
    (hv : ∀ r < n, v r (ValueIdx.ix1 (0 : Fin 16)) = ((y r : ℝ) : EReal)) :
    laneSum (F := Ideal) v t n (ValueIdx.ix1 l)
      = ((∑ r ∈ Finset.range n, if l.val = 0 then (if (t r).toNat ≠ 0 then y r else 0) else 0 : ℝ) : EReal) := by
  induction n with
  | zero =>
    rw [Finset.sum_range_zero, EReal.coe_zero]
    exact Ideal.ofBits_zero_f32
  | succ n ih =>
    rw [Finset.sum_range_succ, EReal.coe_add, ← ih fun r hr => hv r (by omega)]
    exact laneAdd_apply (t n) (v n) _ l (y n) (hv n (by omega))

/-- One group's count. -/
theorem cntAdd_apply (t : IVec S16 32) (acc : FVec Ideal S16 .f32) (l : Fin 16) (y : ℝ) (ha : acc (ValueIdx.ix1 l) = ((y : ℝ) : EReal)) :
    cntAdd (F := Ideal) t acc (ValueIdx.ix1 l) = ((y + if (t (ValueIdx.ix1 l)).toNat ≠ 0 then 1 else 0 : ℝ) : EReal) := by
  show acc (ValueIdx.ix1 l) + Scalar.select (IntOp.cmpi .ne (t (ValueIdx.ix1 l)) 0#32) (Ideal.ofBits .f32 0x3F800000#32)
    (Ideal.ofBits .f32 0x00000000#32) = _
  rw [ha, WordCmp.cmpi_ne_eq_toNat, WordCmp.select_decide, Ideal.ofBits_zero_f32, Ideal.ofBits_one_f32, EReal.coe_add]
  refine congrArg (((y : ℝ) : EReal) + ·) ?_
  show (if (t (ValueIdx.ix1 l)).toNat ≠ 0 then _ else _) = _
  split
  · exact EReal.coe_one.symm
  · exact EReal.coe_zero.symm

/-- A tile's vector at a lane, in the reals. -/
theorem scOut_apply (hX : ∀ r c, X (ValueIdx.ix2 r c) = ((x r c : ℝ) : EReal)) (w : Fin 32) (l : Fin 16) :
    scOut (F := Ideal) (xFlat (F := Ideal) X) Tg (ValueIdx.ix2 w l)
      = ((1 / 999980 * (∑ r ∈ Finset.range 64, if l.val = 0 then
            (if tn Tg (64 * w.val + r) ≠ 0 then xn x (64 * w.val + r) ⟨0, by decide⟩ else 0) else 0)
          + Rows.ent * (∑ g ∈ Finset.range 4, if tn Tg (64 * w.val + (16 * g + l.val)) ≠ 0 then 1 else 0) : ℝ) : EReal) := by
  have hw := w.isLt
  have hl := l.isLt
  have ht : ∀ r < 64, (tgt (F := Ideal) (tPart (F := Ideal) Tg w) r).toNat = tn Tg (64 * w.val + r) := fun r hr =>
    congrArg (fun q => (Tg (ValueIdx.ix1 q)).toNat) (Fin.ext (by
      show 64 * w.val + (16 * (r / 16) + r % 16) % 64 = (64 * w.val + r) % 2048
      omega))
  have hg : ∀ g < 4, (grpVec (F := Ideal) (tPart (F := Ideal) Tg w) g (ValueIdx.ix1 l)).toNat = tn Tg (64 * w.val + (16 * g + l.val)) := fun g hg =>
    congrArg (fun q => (Tg (ValueIdx.ix1 q)).toNat) (Fin.ext (by
      show 64 * w.val + (16 * g + l.val) % 64 = (64 * w.val + (16 * g + l.val)) % 2048
      omega))
  have h1 := laneSum_apply (rowVec (F := Ideal) (xPart (F := Ideal) (xFlat (F := Ideal) X) w)) (tgt (F := Ideal) (tPart (F := Ideal) Tg w)) l
    (fun r => xn x (64 * w.val + r) ⟨0, by decide⟩) 64 fun r hr =>
      (xFlat_apply X (64 * w.val + r) _ (by
        show 8192 * w.val + (128 * r + 0) % 8192 = 128 * (64 * w.val + r)
        omega)).trans (hX _ _)
  have h2 := cntAdd_apply (grpVec (F := Ideal) (tPart (F := Ideal) Tg w) 3) _ l _
    (cntAdd_apply (grpVec (F := Ideal) (tPart (F := Ideal) Tg w) 2) _ l _
      (cntAdd_apply (grpVec (F := Ideal) (tPart (F := Ideal) Tg w) 1) _ l _
        (cntAdd_apply (grpVec (F := Ideal) (tPart (F := Ideal) Tg w) 0) (broadcast S16 (Scalar.ofBits .f32 0x00000000#32)) l 0
          (Ideal.ofBits_zero_f32.trans EReal.coe_zero.symm))))
  rw [hg 0 (by omega), hg 1 (by omega), hg 2 (by omega), hg 3 (by omega)] at h2
  show (Named.named (F := Ideal) (φ := .f32) κ "eps" 0x3586386D#32 : EReal) * laneSum (F := Ideal) _ _ 64 (ValueIdx.ix1 l)
    + (Named.named (F := Ideal) (φ := .f32) κ "entropy" 0xBFBCF9CF#32 : EReal) * cntAdd (F := Ideal) _ _ (ValueIdx.ix1 l) = _
  rw [h1, h2, named_eps, named_ent, ← EReal.coe_mul, ← EReal.coe_mul, ← EReal.coe_add]
  refine congrArg Real.toEReal ?_
  rw [Finset.sum_congr rfl fun r hr => by rw [ht r (Finset.mem_range.1 hr)]]
  simp only [Finset.sum_range_succ, Finset.sum_range_zero]

/-- A row's share of what the SparseCores add. -/
def sparse (k : ℕ) : ℝ := if tn Tg k ≠ 0 then 1 / 999980 * xn x k ⟨0, by decide⟩ + Rows.ent else 0

/-- A tile's lanes add up to its rows' shares. -/
theorem tile_sum (w : ℕ) :
    (∑ l ∈ Finset.range 16, (1 / 999980 * (∑ r ∈ Finset.range 64, if l = 0 then
            (if tn Tg (64 * w + r) ≠ 0 then xn x (64 * w + r) ⟨0, by decide⟩ else 0) else 0)
          + Rows.ent * (∑ g ∈ Finset.range 4, if tn Tg (64 * w + (16 * g + l)) ≠ 0 then 1 else 0) : ℝ))
      = ∑ r ∈ Finset.range 64, sparse Tg x (64 * w + r) := by
  rw [Finset.sum_add_distrib, ← Finset.mul_sum, ← Finset.mul_sum, Finset.sum_comm]
  rw [Finset.sum_comm (s := Finset.range 16) (t := Finset.range 4),
    ← sum_split 4 16 fun k => if tn Tg (64 * w + k) ≠ 0 then 1 else 0]
  rw [Finset.sum_congr rfl fun r _ => show (∑ l ∈ Finset.range 16, if l = 0 then
      (if tn Tg (64 * w + r) ≠ 0 then xn x (64 * w + r) ⟨0, by decide⟩ else 0) else 0)
      = (if tn Tg (64 * w + r) ≠ 0 then xn x (64 * w + r) ⟨0, by decide⟩ else 0) by
    rw [Finset.sum_ite_eq' (Finset.range 16) 0, if_pos (Finset.mem_range.2 (by decide))]]
  rw [Finset.mul_sum, Finset.mul_sum, ← Finset.sum_add_distrib]
  refine Finset.sum_congr rfl fun r _ => ?_
  unfold sparse
  split <;> ring

/-- The kernel's result on finite log-probabilities, in the reals. -/
theorem resultOf_eq (hX : ∀ r c, X (ValueIdx.ix2 r c) = ((x r c : ℝ) : EReal)) (j : S_.Idx) :
    resultOf (F := Ideal) X Tg j = ((∑ k ∈ Finset.range 2048, (Rows.dense (tn Tg k) (xn x k) + sparse Tg x k) : ℝ) : EReal) := by
  have h1 : Host.reduceAdd (F := Ideal) (scOut (F := Ideal) (xFlat (F := Ideal) X) Tg) (constant S_ .f32 0x00000000#32)
      reducesTo_S32x16_S_d0_1 h_S_ j = ((∑ k ∈ Finset.range 2048, sparse Tg x k : ℝ) : EReal) := by
    rw [ValueIdx.hostReduceAdd_apply, Ideal.hostReduceAdd_total _ (fun b => b.elim0), ValueIdx.sum_idx2]
    rw [Finset.sum_congr rfl fun w _ => Finset.sum_congr rfl fun l _ => scOut_apply X Tg x hX w l]
    rw [Finset.sum_congr rfl fun w _ => (coe_sum _ _).symm, ← coe_sum]
    show Ideal.ofBits .f32 0x00000000#32 + _ = _
    rw [Ideal.ofBits_zero_f32, zero_add]
    refine congrArg Real.toEReal ?_
    rw [show 2048 = 32 * 64 from rfl, sum_split 32 64, Finset.sum_range]
    refine Finset.sum_congr rfl fun w _ => ?_
    rw [← tile_sum Tg x w.val, Finset.sum_range]
  have h2 : (accVal (F := Ideal) X (tBlocks (F := Ideal) Tg) 127 : EReal)
      = ((∑ k ∈ Finset.range 2048, Rows.dense (tn Tg k) (xn x k) : ℝ) : EReal) := by
    rw [accVal_eq X Tg x hX, show 2048 = 128 * 16 from rfl, sum_split 128 16]
  show accVal (F := Ideal) X (tBlocks (F := Ideal) Tg) 127 + Host.reduceAdd (F := Ideal) _ _ _ _ j = _
  rw [h1, Finset.sum_add_distrib, EReal.coe_add]
  exact congrArg (· + _) h2

end Cert.Proof.KerValue
-- ==== Proof.Algebraic.lean ====
/- The two results agree: the kernel's and the reference's, on finite log-probabilities and targets that name columns. -/
module

public import proofs.«01_k».proof.Defs
public import proofs.«01_k».proof.Proof.KerValue
public import proofs.«01_k».proof.Proof.RefValue
public import Idealize.ShloMosaic.Lib.ReduceAll
public import Idealize.ShloMosaic.Lib.WordCmp

@[expose] public section

set_option maxRecDepth 16384

noncomputable section

namespace Cert.Proof.Algebraic

open Idealize.ShloMosaic Idealize.SL.Sem

/-! ## The precondition -/

/-- The shape relations that the precondition's operations take. -/
instance preFacts : Cert.Pre_finite_in_range.Facts where
  bcast_S_S2048x100000 := by decide
  reducesTo_S2048x100000_S_d0_1 := by decide
  h_S_ := by decide
  bcast_S_S2048 := by decide
  reducesTo_S2048_S_d0 := by decide

/-- Two bits whose conjunction is one are both one. -/
theorem both_of_and : ∀ a b : BitVec 1, IntOp.andi a b = 1#1 → a = 1#1 ∧ b = 1#1 := by decide

/-- A bit that tells whether something holds is one only where it holds. -/
theorem of_ofBool {p : Prop} [Decidable p] (h : BitVec.ofBool (decide p) = 1#1) : p := by
  by_cases hp : p
  · exact hp
  · rw [decide_eq_false hp] at h
    exact absurd h (by decide)

/-- An extended real whose absolute value is below the word of infinity is a real. -/
theorem real_of_abs_lt (y : EReal) (h : max y (-y) < Ideal.ofBits .f32 0x7F800000#32) : y = ((y.toReal : ℝ) : EReal) := by
  have htop : Ideal.ofBits .f32 0x7F800000#32 = ⊤ := by simp [Ideal.ofBits, Ideal.ieee]
  rw [htop] at h
  refine (EReal.coe_toReal ?_ ?_).symm
  · rintro rfl
    exact absurd (lt_of_le_of_lt (le_max_left _ _) h) (lt_irrefl _)
  · rintro rfl
    exact absurd (lt_of_le_of_lt (le_max_right _ _) h) (by rw [EReal.neg_bot]; exact lt_irrefl _)

/-- Under the precondition every log-probability is a real and every target names a column. -/
theorem pre_holds (X : FVec Ideal Cert.KernelIdeal.S2048x100000 .f32) (Tg : IVec Cert.KernelIdeal.S2048 32)
    (h : Cert.Pre_finite_in_range.fn (F := Ideal) X Tg = fun _ => 1#1) :
    (∀ r c, X (ValueIdx.ix2 r c) = (((X (ValueIdx.ix2 r c)).toReal : ℝ) : EReal)) ∧ ∀ r : Fin 2048, (Tg (ValueIdx.ix1 r)).toNat < 100000 := by
  haveI : Subsingleton Cert.Pre_finite_in_range.S_.Idx := ⟨fun a b => funext fun q => q.elim0⟩
  obtain ⟨hx, ht⟩ := both_of_and _ _ (congrFun h ValueIdx.ix0)
  constructor
  · intro r c
    have e := Host.reduce_andi_all _ _ _ _ _ hx (ValueIdx.ix2 r c)
    exact real_of_abs_lt _ (of_ofBool e)
  · intro r
    have e := Host.reduce_andi_all _ _ _ _ _ ht (ValueIdx.ix1 r)
    obtain ⟨e1, e2⟩ := both_of_and _ _ e
    have h1 : (0#32 : BitVec 32).toInt ≤ (Tg (ValueIdx.ix1 r)).toInt := of_ofBool e1
    have h2 : (Tg (ValueIdx.ix1 r)).toInt < (100000#32 : BitVec 32).toInt := of_ofBool e2
    have h3 := (WordCmp.toInt_nonneg_iff_lt_half (Tg (ValueIdx.ix1 r))).1 h1
    rw [WordCmp.toInt_eq_toNat_of_lt_half h3] at h2
    have h4 : (100000#32 : BitVec 32).toInt = 100000 := by decide
    omega

/-! ## The equality -/

/-- The kernel's result is the reference's. -/
theorem results_agree (X : FVec Ideal Cert.KernelIdeal.S2048x100000 .f32) (Tg : IVec Cert.KernelIdeal.S2048 32)
    (h : Cert.Pre_finite_in_range.fn (F := Ideal) X Tg = fun _ => 1#1) :
    RefValue.lossV Tg X = Run.resultOf (F := Ideal) X Tg := by
  obtain ⟨hX, hT⟩ := pre_holds X Tg h
  funext j
  refine (RefValue.lossV_eq Tg hT X _ hX j).trans (Eq.trans ?_ (KerValue.resultOf_eq X Tg _ hX j).symm)
  refine congrArg Real.toEReal ?_
  rw [KerValue.sum_fin 2048 (by decide)]
  refine Finset.sum_congr rfl fun k _ => ?_
  exact Rows.row_eq rfl _ (hT _) (by decide) _

/-- On arguments that satisfy the precondition the two programs leave the same result. -/
theorem algebraic : Cert.algebraic_KernelIdeal_ReferenceIdeal_pre_finite_in_range := fun m g m' g' hpre hargs =>
  ⟨fun c => Run.resultOf (F := Ideal) (Run.predOf m c) (Run.tgtOf m c),
    (θ_run (Cert.KernelIdeal.defs (F := Ideal)) _ _).mono
      (fun _ h c => ⟨(h.1 c).2.2, (h.1 c).1, (h.1 c).2.1⟩) (Run.run_main (F := Ideal) m g),
    (θ_run (Cert.ReferenceIdeal.defs (F := Ideal)) _ _).mono
      (fun _ h c => ⟨(h c).1.trans (by
        rw [RefValue.res_eq]
        refine Eq.trans ?_ (results_agree _ _ (hpre c))
        exact congrArg₂ RefValue.lossV (hargs c).2 (hargs c).1), (h c).2⟩)
      (Cert.ReferenceIdeal.Value.run (F := Ideal) m' g')⟩

end Cert.Proof.Algebraic
-- ==== Proof.lean ====
/- The proof of the claims: the frames of kernel and reference, the named constants, and the equality of the results. -/
module

public import proofs.«01_k».proof.Defs
public import proofs.«01_k».proof.Proof.Claims
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run

@[expose] public section

noncomputable section

namespace Cert.Proof

open Idealize.ShloMosaic Idealize.SL.Sem

/-- Every claim, with the witnesses of the programs' side conditions first. -/
theorem claim : Cert.Claim :=
  ⟨Cert.Kernel.Gen.facts, Cert.KernelIdeal.Gen.facts, Cert.ReferenceIdeal.Gen.facts, Cert.Reference.Gen.facts, Algebraic.preFacts,
    Run.frame_kernel, Run.frame_ideal, fun m ρ _ => Run.frame_ideal m ρ trivial,
    Run.frame_reference_ideal, fun m ρ _ => Run.frame_reference_ideal m ρ trivial, Run.frame_reference,
    Run.constants_named, trivial, Algebraic.algebraic⟩

end Cert.Proof

end
